-- ==== Defs.lean ====
def Pre_GroupedMoe [hPre_groups_exist : Cert.Pre_groups_exist.Facts] (m : (ℓ : Loc Cert.GroupedMoe.nD Cert.GroupedMoe.τ Cert.GroupedMoe.sig) → Buf (Elt Bits) ℓ) : Prop :=
  ∀ c : Dev Cert.GroupedMoe.nD,
    (Cert.Pre_groups_exist.fn (F := Bits) (m ((c.tc : Thread Cert.GroupedMoe.nD Cert.GroupedMoe.τ).loc Cert.GroupedMoe.main_arg0)) (m ((c.tc : Thread Cert.GroupedMoe.nD Cert.GroupedMoe.τ).loc Cert.GroupedMoe.main_arg1)) (m ((c.tc : Thread Cert.GroupedMoe.nD Cert.GroupedMoe.τ).loc Cert.GroupedMoe.main_arg2)) (m ((c.tc : Thread Cert.GroupedMoe.nD Cert.GroupedMoe.τ).loc Cert.GroupedMoe.main_arg3)) (m ((c.tc : Thread Cert.GroupedMoe.nD Cert.GroupedMoe.τ).loc Cert.GroupedMoe.main_arg4)) (m ((c.tc : Thread Cert.GroupedMoe.nD Cert.GroupedMoe.τ).loc Cert.GroupedMoe.main_arg5))) = (fun _ => 1#1)

def Pre_GroupedMoeIdeal [hPre_groups_exist : Cert.Pre_groups_exist.Facts] (m : (ℓ : Loc Cert.GroupedMoeIdeal.nD Cert.GroupedMoeIdeal.τ Cert.GroupedMoeIdeal.sig) → Buf (Elt Ideal) ℓ) : Prop :=
  ∀ c : Dev Cert.GroupedMoeIdeal.nD,
    (Cert.Pre_groups_exist.fn (F := Ideal) (m ((c.tc : Thread Cert.GroupedMoeIdeal.nD Cert.GroupedMoeIdeal.τ).loc Cert.GroupedMoeIdeal.main_arg0)) (m ((c.tc : Thread Cert.GroupedMoeIdeal.nD Cert.GroupedMoeIdeal.τ).loc Cert.GroupedMoeIdeal.main_arg1)) (m ((c.tc : Thread Cert.GroupedMoeIdeal.nD Cert.GroupedMoeIdeal.τ).loc Cert.GroupedMoeIdeal.main_arg2)) (m ((c.tc : Thread Cert.GroupedMoeIdeal.nD Cert.GroupedMoeIdeal.τ).loc Cert.GroupedMoeIdeal.main_arg3)) (m ((c.tc : Thread Cert.GroupedMoeIdeal.nD Cert.GroupedMoeIdeal.τ).loc Cert.GroupedMoeIdeal.main_arg4)) (m ((c.tc : Thread Cert.GroupedMoeIdeal.nD Cert.GroupedMoeIdeal.τ).loc Cert.GroupedMoeIdeal.main_arg5))) = (fun _ => 1#1)

def Pre_GroupedMoeRefIdeal [hPre_groups_exist : Cert.Pre_groups_exist.Facts] (m : (ℓ : Loc Cert.GroupedMoeRefIdeal.nD Cert.GroupedMoeRefIdeal.τ Cert.GroupedMoeRefIdeal.sig) → Buf (Elt Ideal) ℓ) : Prop :=
  ∀ c : Dev Cert.GroupedMoeRefIdeal.nD,
    (Cert.Pre_groups_exist.fn (F := Ideal) (m ((c.tc : Thread Cert.GroupedMoeRefIdeal.nD Cert.GroupedMoeRefIdeal.τ).loc Cert.GroupedMoeRefIdeal.main_arg0)) (m ((c.tc : Thread Cert.GroupedMoeRefIdeal.nD Cert.GroupedMoeRefIdeal.τ).loc Cert.GroupedMoeRefIdeal.main_arg1)) (m ((c.tc : Thread Cert.GroupedMoeRefIdeal.nD Cert.GroupedMoeRefIdeal.τ).loc Cert.GroupedMoeRefIdeal.main_arg2)) (m ((c.tc : Thread Cert.GroupedMoeRefIdeal.nD Cert.GroupedMoeRefIdeal.τ).loc Cert.GroupedMoeRefIdeal.main_arg3)) (m ((c.tc : Thread Cert.GroupedMoeRefIdeal.nD Cert.GroupedMoeRefIdeal.τ).loc Cert.GroupedMoeRefIdeal.main_arg4)) (m ((c.tc : Thread Cert.GroupedMoeRefIdeal.nD Cert.GroupedMoeRefIdeal.τ).loc Cert.GroupedMoeRefIdeal.main_arg5))) = (fun _ => 1#1)

def Pre_SampleMoe (m : (ℓ : Loc Cert.SampleMoe.nD Cert.SampleMoe.τ Cert.SampleMoe.sig) → Buf (Elt Bits) ℓ) : Prop :=
  True

def Pre_SampleMoeIdeal (m : (ℓ : Loc Cert.SampleMoeIdeal.nD Cert.SampleMoeIdeal.τ Cert.SampleMoeIdeal.sig) → Buf (Elt Ideal) ℓ) : Prop :=
  True

def Pre_SampleMoeRefIdeal (m : (ℓ : Loc Cert.SampleMoeRefIdeal.nD Cert.SampleMoeRefIdeal.τ Cert.SampleMoeRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_SampleInProj (m : (ℓ : Loc Cert.SampleInProj.nD Cert.SampleInProj.τ Cert.SampleInProj.sig) → Buf (Elt Bits) ℓ) : Prop :=
  True

def Pre_SampleInProjIdeal (m : (ℓ : Loc Cert.SampleInProjIdeal.nD Cert.SampleInProjIdeal.τ Cert.SampleInProjIdeal.sig) → Buf (Elt Ideal) ℓ) : Prop :=
  True

def Pre_SampleInProjRefIdeal (m : (ℓ : Loc Cert.SampleInProjRefIdeal.nD Cert.SampleInProjRefIdeal.τ Cert.SampleInProjRefIdeal.sig) → Buf (Elt Ideal) ℓ) : Prop :=
  True

def quiescent_GroupedMoe [hGroupedMoe : Cert.GroupedMoe.Facts] [hPre_groups_exist : Cert.Pre_groups_exist.Facts] : Prop :=
  ∀ (m : (ℓ : Loc Cert.GroupedMoe.nD Cert.GroupedMoe.τ Cert.GroupedMoe.sig) → Buf (Elt Bits) ℓ) (g : Dev Cert.GroupedMoe.nD → PrngReg), Pre_GroupedMoe m →
    θ_run (Cert.GroupedMoe.defs (F := Bits)) (onTc (τ := Cert.GroupedMoe.τ) (Cert.GroupedMoe.main (F := Bits))) ⟨m, fun _ => 0, g⟩ (fun r => (∀ c : Dev Cert.GroupedMoe.nD,
      r.2.mem ((c.tc : Thread Cert.GroupedMoe.nD Cert.GroupedMoe.τ).loc Cert.GroupedMoe.main_arg0) = m ((c.tc : Thread Cert.GroupedMoe.nD Cert.GroupedMoe.τ).loc Cert.GroupedMoe.main_arg0)
      ∧ r.2.mem ((c.tc : Thread Cert.GroupedMoe.nD Cert.GroupedMoe.τ).loc Cert.GroupedMoe.main_arg1) = m ((c.tc : Thread Cert.GroupedMoe.nD Cert.GroupedMoe.τ).loc Cert.GroupedMoe.main_arg1)
      ∧ r.2.mem ((c.tc : Thread Cert.GroupedMoe.nD Cert.GroupedMoe.τ).loc Cert.GroupedMoe.main_arg2) = m ((c.tc : Thread Cert.GroupedMoe.nD Cert.GroupedMoe.τ).loc Cert.GroupedMoe.main_arg2)
      ∧ r.2.mem ((c.tc : Thread Cert.GroupedMoe.nD Cert.GroupedMoe.τ).loc Cert.GroupedMoe.main_arg3) = m ((c.tc : Thread Cert.GroupedMoe.nD Cert.GroupedMoe.τ).loc Cert.GroupedMoe.main_arg3)
      ∧ r.2.mem ((c.tc : Thread Cert.GroupedMoe.nD Cert.GroupedMoe.τ).loc Cert.GroupedMoe.main_arg4) = m ((c.tc : Thread Cert.GroupedMoe.nD Cert.GroupedMoe.τ).loc Cert.GroupedMoe.main_arg4)
      ∧ r.2.mem ((c.tc : Thread Cert.GroupedMoe.nD Cert.GroupedMoe.τ).loc Cert.GroupedMoe.main_arg5) = m ((c.tc : Thread Cert.GroupedMoe.nD Cert.GroupedMoe.τ).loc Cert.GroupedMoe.main_arg5))
      ∧ r.2.sem = fun _ => 0)

def quiescent_GroupedMoeIdeal [hGroupedMoeIdeal : Cert.GroupedMoeIdeal.Facts] [hPre_groups_exist : Cert.Pre_groups_exist.Facts] : Prop :=
  ∀ (m : (ℓ : Loc Cert.GroupedMoeIdeal.nD Cert.GroupedMoeIdeal.τ Cert.GroupedMoeIdeal.sig) → Buf (Elt Ideal) ℓ) (g : Dev Cert.GroupedMoeIdeal.nD → PrngReg), Pre_GroupedMoeIdeal m →
    θ_run (Cert.GroupedMoeIdeal.defs (F := Ideal)) (onTc (τ := Cert.GroupedMoeIdeal.τ) (Cert.GroupedMoeIdeal.main (F := Ideal))) ⟨m, fun _ => 0, g⟩ (fun r => (∀ c : Dev Cert.GroupedMoeIdeal.nD,
      r.2.mem ((c.tc : Thread Cert.GroupedMoeIdeal.nD Cert.GroupedMoeIdeal.τ).loc Cert.GroupedMoeIdeal.main_arg0) = m ((c.tc : Thread Cert.GroupedMoeIdeal.nD Cert.GroupedMoeIdeal.τ).loc Cert.GroupedMoeIdeal.main_arg0)
      ∧ r.2.mem ((c.tc : Thread Cert.GroupedMoeIdeal.nD Cert.GroupedMoeIdeal.τ).loc Cert.GroupedMoeIdeal.main_arg1) = m ((c.tc : Thread Cert.GroupedMoeIdeal.nD Cert.GroupedMoeIdeal.τ).loc Cert.GroupedMoeIdeal.main_arg1)
      ∧ r.2.mem ((c.tc : Thread Cert.GroupedMoeIdeal.nD Cert.GroupedMoeIdeal.τ).loc Cert.GroupedMoeIdeal.main_arg2) = m ((c.tc : Thread Cert.GroupedMoeIdeal.nD Cert.GroupedMoeIdeal.τ).loc Cert.GroupedMoeIdeal.main_arg2)
      ∧ r.2.mem ((c.tc : Thread Cert.GroupedMoeIdeal.nD Cert.GroupedMoeIdeal.τ).loc Cert.GroupedMoeIdeal.main_arg3) = m ((c.tc : Thread Cert.GroupedMoeIdeal.nD Cert.GroupedMoeIdeal.τ).loc Cert.GroupedMoeIdeal.main_arg3)
      ∧ r.2.mem ((c.tc : Thread Cert.GroupedMoeIdeal.nD Cert.GroupedMoeIdeal.τ).loc Cert.GroupedMoeIdeal.main_arg4) = m ((c.tc : Thread Cert.GroupedMoeIdeal.nD Cert.GroupedMoeIdeal.τ).loc Cert.GroupedMoeIdeal.main_arg4)
      ∧ r.2.mem ((c.tc : Thread Cert.GroupedMoeIdeal.nD Cert.GroupedMoeIdeal.τ).loc Cert.GroupedMoeIdeal.main_arg5) = m ((c.tc : Thread Cert.GroupedMoeIdeal.nD Cert.GroupedMoeIdeal.τ).loc Cert.GroupedMoeIdeal.main_arg5))
      ∧ r.2.sem = fun _ => 0)

def quiescent_GroupedMoeRefIdeal [hGroupedMoeRefIdeal : Cert.GroupedMoeRefIdeal.Facts] [hPre_groups_exist : Cert.Pre_groups_exist.Facts] : Prop :=
  ∀ (m : (ℓ : Loc Cert.GroupedMoeRefIdeal.nD Cert.GroupedMoeRefIdeal.τ Cert.GroupedMoeRefIdeal.sig) → Buf (Elt Ideal) ℓ) (g : Dev Cert.GroupedMoeRefIdeal.nD → PrngReg), Pre_GroupedMoeRefIdeal m →
    θ_run (Cert.GroupedMoeRefIdeal.defs (F := Ideal)) (onTc (τ := Cert.GroupedMoeRefIdeal.τ) (Cert.GroupedMoeRefIdeal.main (F := Ideal))) ⟨m, fun _ => 0, g⟩ (fun r => (∀ c : Dev Cert.GroupedMoeRefIdeal.nD,
      r.2.mem ((c.tc : Thread Cert.GroupedMoeRefIdeal.nD Cert.GroupedMoeRefIdeal.τ).loc Cert.GroupedMoeRefIdeal.main_arg0) = m ((c.tc : Thread Cert.GroupedMoeRefIdeal.nD Cert.GroupedMoeRefIdeal.τ).loc Cert.GroupedMoeRefIdeal.main_arg0)
      ∧ r.2.mem ((c.tc : Thread Cert.GroupedMoeRefIdeal.nD Cert.GroupedMoeRefIdeal.τ).loc Cert.GroupedMoeRefIdeal.main_arg1) = m ((c.tc : Thread Cert.GroupedMoeRefIdeal.nD Cert.GroupedMoeRefIdeal.τ).loc Cert.GroupedMoeRefIdeal.main_arg1)
      ∧ r.2.mem ((c.tc : Thread Cert.GroupedMoeRefIdeal.nD Cert.GroupedMoeRefIdeal.τ).loc Cert.GroupedMoeRefIdeal.main_arg2) = m ((c.tc : Thread Cert.GroupedMoeRefIdeal.nD Cert.GroupedMoeRefIdeal.τ).loc Cert.GroupedMoeRefIdeal.main_arg2)
      ∧ r.2.mem ((c.tc : Thread Cert.GroupedMoeRefIdeal.nD Cert.GroupedMoeRefIdeal.τ).loc Cert.GroupedMoeRefIdeal.main_arg3) = m ((c.tc : Thread Cert.GroupedMoeRefIdeal.nD Cert.GroupedMoeRefIdeal.τ).loc Cert.GroupedMoeRefIdeal.main_arg3)
      ∧ r.2.mem ((c.tc : Thread Cert.GroupedMoeRefIdeal.nD Cert.GroupedMoeRefIdeal.τ).loc Cert.GroupedMoeRefIdeal.main_arg4) = m ((c.tc : Thread Cert.GroupedMoeRefIdeal.nD Cert.GroupedMoeRefIdeal.τ).loc Cert.GroupedMoeRefIdeal.main_arg4)
      ∧ r.2.mem ((c.tc : Thread Cert.GroupedMoeRefIdeal.nD Cert.GroupedMoeRefIdeal.τ).loc Cert.GroupedMoeRefIdeal.main_arg5) = m ((c.tc : Thread Cert.GroupedMoeRefIdeal.nD Cert.GroupedMoeRefIdeal.τ).loc Cert.GroupedMoeRefIdeal.main_arg5))
      ∧ r.2.sem = fun _ => 0)

def quiescent_SampleMoe [hSampleMoe : Cert.SampleMoe.Facts] : Prop :=
  ∀ (m : (ℓ : Loc Cert.SampleMoe.nD Cert.SampleMoe.τ Cert.SampleMoe.sig) → Buf (Elt Bits) ℓ) (g : Dev Cert.SampleMoe.nD → PrngReg), Pre_SampleMoe m →
    θ_run (Cert.SampleMoe.defs (F := Bits)) (onTc (τ := Cert.SampleMoe.τ) (Cert.SampleMoe.main (F := Bits))) ⟨m, fun _ => 0, g⟩ (fun r => (∀ c : Dev Cert.SampleMoe.nD,
      r.2.mem ((c.tc : Thread Cert.SampleMoe.nD Cert.SampleMoe.τ).loc Cert.SampleMoe.main_arg0) = m ((c.tc : Thread Cert.SampleMoe.nD Cert.SampleMoe.τ).loc Cert.SampleMoe.main_arg0)
      ∧ r.2.mem ((c.tc : Thread Cert.SampleMoe.nD Cert.SampleMoe.τ).loc Cert.SampleMoe.main_arg1) = m ((c.tc : Thread Cert.SampleMoe.nD Cert.SampleMoe.τ).loc Cert.SampleMoe.main_arg1)
      ∧ r.2.mem ((c.tc : Thread Cert.SampleMoe.nD Cert.SampleMoe.τ).loc Cert.SampleMoe.main_arg2) = m ((c.tc : Thread Cert.SampleMoe.nD Cert.SampleMoe.τ).loc Cert.SampleMoe.main_arg2)
      ∧ r.2.mem ((c.tc : Thread Cert.SampleMoe.nD Cert.SampleMoe.τ).loc Cert.SampleMoe.main_arg3) = m ((c.tc : Thread Cert.SampleMoe.nD Cert.SampleMoe.τ).loc Cert.SampleMoe.main_arg3)
      ∧ r.2.mem ((c.tc : Thread Cert.SampleMoe.nD Cert.SampleMoe.τ).loc Cert.SampleMoe.main_arg4) = m ((c.tc : Thread Cert.SampleMoe.nD Cert.SampleMoe.τ).loc Cert.SampleMoe.main_arg4)
      ∧ r.2.mem ((c.tc : Thread Cert.SampleMoe.nD Cert.SampleMoe.τ).loc Cert.SampleMoe.main_arg5) = m ((c.tc : Thread Cert.SampleMoe.nD Cert.SampleMoe.τ).loc Cert.SampleMoe.main_arg5))
      ∧ r.2.sem = fun _ => 0)

def quiescent_SampleMoeIdeal [hSampleMoeIdeal : Cert.SampleMoeIdeal.Facts] : Prop :=
  ∀ (m : (ℓ : Loc Cert.SampleMoeIdeal.nD Cert.SampleMoeIdeal.τ Cert.SampleMoeIdeal.sig) → Buf (Elt Ideal) ℓ) (g : Dev Cert.SampleMoeIdeal.nD → PrngReg), Pre_SampleMoeIdeal m →
    θ_run (Cert.SampleMoeIdeal.defs (F := Ideal)) (onTc (τ := Cert.SampleMoeIdeal.τ) (Cert.SampleMoeIdeal.main (F := Ideal))) ⟨m, fun _ => 0, g⟩ (fun r => (∀ c : Dev Cert.SampleMoeIdeal.nD,
      r.2.mem ((c.tc : Thread Cert.SampleMoeIdeal.nD Cert.SampleMoeIdeal.τ).loc Cert.SampleMoeIdeal.main_arg0) = m ((c.tc : Thread Cert.SampleMoeIdeal.nD Cert.SampleMoeIdeal.τ).loc Cert.SampleMoeIdeal.main_arg0)
      ∧ r.2.mem ((c.tc : Thread Cert.SampleMoeIdeal.nD Cert.SampleMoeIdeal.τ).loc Cert.SampleMoeIdeal.main_arg1) = m ((c.tc : Thread Cert.SampleMoeIdeal.nD Cert.SampleMoeIdeal.τ).loc Cert.SampleMoeIdeal.main_arg1)
      ∧ r.2.mem ((c.tc : Thread Cert.SampleMoeIdeal.nD Cert.SampleMoeIdeal.τ).loc Cert.SampleMoeIdeal.main_arg2) = m ((c.tc : Thread Cert.SampleMoeIdeal.nD Cert.SampleMoeIdeal.τ).loc Cert.SampleMoeIdeal.main_arg2)
      ∧ r.2.mem ((c.tc : Thread Cert.SampleMoeIdeal.nD Cert.SampleMoeIdeal.τ).loc Cert.SampleMoeIdeal.main_arg3) = m ((c.tc : Thread Cert.SampleMoeIdeal.nD Cert.SampleMoeIdeal.τ).loc Cert.SampleMoeIdeal.main_arg3)
      ∧ r.2.mem ((c.tc : Thread Cert.SampleMoeIdeal.nD Cert.SampleMoeIdeal.τ).loc Cert.SampleMoeIdeal.main_arg4) = m ((c.tc : Thread Cert.SampleMoeIdeal.nD Cert.SampleMoeIdeal.τ).loc Cert.SampleMoeIdeal.main_arg4)
      ∧ r.2.mem ((c.tc : Thread Cert.SampleMoeIdeal.nD Cert.SampleMoeIdeal.τ).loc Cert.SampleMoeIdeal.main_arg5) = m ((c.tc : Thread Cert.SampleMoeIdeal.nD Cert.SampleMoeIdeal.τ).loc Cert.SampleMoeIdeal.main_arg5))
      ∧ r.2.sem = fun _ => 0)

def quiescent_SampleMoeRefIdeal [hSampleMoeRefIdeal : Cert.SampleMoeRefIdeal.Facts] : Prop :=
  ∀ (m : (ℓ : Loc Cert.SampleMoeRefIdeal.nD Cert.SampleMoeRefIdeal.τ Cert.SampleMoeRefIdeal.sig) → Buf (Elt Ideal) ℓ) (g : Dev Cert.SampleMoeRefIdeal.nD → PrngReg), Pre_SampleMoeRefIdeal m →
    θ_run (Cert.SampleMoeRefIdeal.defs (F := Ideal)) (onTc (τ := Cert.SampleMoeRefIdeal.τ) (Cert.SampleMoeRefIdeal.main (F := Ideal))) ⟨m, fun _ => 0, g⟩ (fun r => (∀ c : Dev Cert.SampleMoeRefIdeal.nD,
      r.2.mem ((c.tc : Thread Cert.SampleMoeRefIdeal.nD Cert.SampleMoeRefIdeal.τ).loc Cert.SampleMoeRefIdeal.main_arg0) = m ((c.tc : Thread Cert.SampleMoeRefIdeal.nD Cert.SampleMoeRefIdeal.τ).loc Cert.SampleMoeRefIdeal.main_arg0)
      ∧ r.2.mem ((c.tc : Thread Cert.SampleMoeRefIdeal.nD Cert.SampleMoeRefIdeal.τ).loc Cert.SampleMoeRefIdeal.main_arg1) = m ((c.tc : Thread Cert.SampleMoeRefIdeal.nD Cert.SampleMoeRefIdeal.τ).loc Cert.SampleMoeRefIdeal.main_arg1)
      ∧ r.2.mem ((c.tc : Thread Cert.SampleMoeRefIdeal.nD Cert.SampleMoeRefIdeal.τ).loc Cert.SampleMoeRefIdeal.main_arg2) = m ((c.tc : Thread Cert.SampleMoeRefIdeal.nD Cert.SampleMoeRefIdeal.τ).loc Cert.SampleMoeRefIdeal.main_arg2)
      ∧ r.2.mem ((c.tc : Thread Cert.SampleMoeRefIdeal.nD Cert.SampleMoeRefIdeal.τ).loc Cert.SampleMoeRefIdeal.main_arg3) = m ((c.tc : Thread Cert.SampleMoeRefIdeal.nD Cert.SampleMoeRefIdeal.τ).loc Cert.SampleMoeRefIdeal.main_arg3)
      ∧ r.2.mem ((c.tc : Thread Cert.SampleMoeRefIdeal.nD Cert.SampleMoeRefIdeal.τ).loc Cert.SampleMoeRefIdeal.main_arg4) = m ((c.tc : Thread Cert.SampleMoeRefIdeal.nD Cert.SampleMoeRefIdeal.τ).loc Cert.SampleMoeRefIdeal.main_arg4)
      ∧ r.2.mem ((c.tc : Thread Cert.SampleMoeRefIdeal.nD Cert.SampleMoeRefIdeal.τ).loc Cert.SampleMoeRefIdeal.main_arg5) = m ((c.tc : Thread Cert.SampleMoeRefIdeal.nD Cert.SampleMoeRefIdeal.τ).loc Cert.SampleMoeRefIdeal.main_arg5))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_SampleInProj [hSampleInProj : Cert.SampleInProj.Facts] : Prop :=
  ∀ (m : (ℓ : Loc Cert.SampleInProj.nD Cert.SampleInProj.τ Cert.SampleInProj.sig) → Buf (Elt Bits) ℓ) (g : Dev Cert.SampleInProj.nD → PrngReg), Pre_SampleInProj m →
    θ_run (Cert.SampleInProj.defs (F := Bits)) (onTc (τ := Cert.SampleInProj.τ) (Cert.SampleInProj.main (F := Bits))) ⟨m, fun _ => 0, g⟩ (fun r => (∀ c : Dev Cert.SampleInProj.nD,
      r.2.mem ((c.tc : Thread Cert.SampleInProj.nD Cert.SampleInProj.τ).loc Cert.SampleInProj.main_arg0) = m ((c.tc : Thread Cert.SampleInProj.nD Cert.SampleInProj.τ).loc Cert.SampleInProj.main_arg0)
      ∧ r.2.mem ((c.tc : Thread Cert.SampleInProj.nD Cert.SampleInProj.τ).loc Cert.SampleInProj.main_arg1) = m ((c.tc : Thread Cert.SampleInProj.nD Cert.SampleInProj.τ).loc Cert.SampleInProj.main_arg1)
      ∧ r.2.mem ((c.tc : Thread Cert.SampleInProj.nD Cert.SampleInProj.τ).loc Cert.SampleInProj.main_arg2) = m ((c.tc : Thread Cert.SampleInProj.nD Cert.SampleInProj.τ).loc Cert.SampleInProj.main_arg2)
      ∧ r.2.mem ((c.tc : Thread Cert.SampleInProj.nD Cert.SampleInProj.τ).loc Cert.SampleInProj.main_arg3) = m ((c.tc : Thread Cert.SampleInProj.nD Cert.SampleInProj.τ).loc Cert.SampleInProj.main_arg3))
      ∧ r.2.sem = fun _ => 0)

def quiescent_SampleInProjIdeal [hSampleInProjIdeal : Cert.SampleInProjIdeal.Facts] : Prop :=
  ∀ (m : (ℓ : Loc Cert.SampleInProjIdeal.nD Cert.SampleInProjIdeal.τ Cert.SampleInProjIdeal.sig) → Buf (Elt Ideal) ℓ) (g : Dev Cert.SampleInProjIdeal.nD → PrngReg), Pre_SampleInProjIdeal m →
    θ_run (Cert.SampleInProjIdeal.defs (F := Ideal)) (onTc (τ := Cert.SampleInProjIdeal.τ) (Cert.SampleInProjIdeal.main (F := Ideal))) ⟨m, fun _ => 0, g⟩ (fun r => (∀ c : Dev Cert.SampleInProjIdeal.nD,
      r.2.mem ((c.tc : Thread Cert.SampleInProjIdeal.nD Cert.SampleInProjIdeal.τ).loc Cert.SampleInProjIdeal.main_arg0) = m ((c.tc : Thread Cert.SampleInProjIdeal.nD Cert.SampleInProjIdeal.τ).loc Cert.SampleInProjIdeal.main_arg0)
      ∧ r.2.mem ((c.tc : Thread Cert.SampleInProjIdeal.nD Cert.SampleInProjIdeal.τ).loc Cert.SampleInProjIdeal.main_arg1) = m ((c.tc : Thread Cert.SampleInProjIdeal.nD Cert.SampleInProjIdeal.τ).loc Cert.SampleInProjIdeal.main_arg1)
      ∧ r.2.mem ((c.tc : Thread Cert.SampleInProjIdeal.nD Cert.SampleInProjIdeal.τ).loc Cert.SampleInProjIdeal.main_arg2) = m ((c.tc : Thread Cert.SampleInProjIdeal.nD Cert.SampleInProjIdeal.τ).loc Cert.SampleInProjIdeal.main_arg2)
      ∧ r.2.mem ((c.tc : Thread Cert.SampleInProjIdeal.nD Cert.SampleInProjIdeal.τ).loc Cert.SampleInProjIdeal.main_arg3) = m ((c.tc : Thread Cert.SampleInProjIdeal.nD Cert.SampleInProjIdeal.τ).loc Cert.SampleInProjIdeal.main_arg3))
      ∧ r.2.sem = fun _ => 0)

def quiescent_SampleInProjRefIdeal [hSampleInProjRefIdeal : Cert.SampleInProjRefIdeal.Facts] : Prop :=
  ∀ (m : (ℓ : Loc Cert.SampleInProjRefIdeal.nD Cert.SampleInProjRefIdeal.τ Cert.SampleInProjRefIdeal.sig) → Buf (Elt Ideal) ℓ) (g : Dev Cert.SampleInProjRefIdeal.nD → PrngReg), Pre_SampleInProjRefIdeal m →
    θ_run (Cert.SampleInProjRefIdeal.defs (F := Ideal)) (onTc (τ := Cert.SampleInProjRefIdeal.τ) (Cert.SampleInProjRefIdeal.main (F := Ideal))) ⟨m, fun _ => 0, g⟩ (fun r => (∀ c : Dev Cert.SampleInProjRefIdeal.nD,
      r.2.mem ((c.tc : Thread Cert.SampleInProjRefIdeal.nD Cert.SampleInProjRefIdeal.τ).loc Cert.SampleInProjRefIdeal.main_arg0) = m ((c.tc : Thread Cert.SampleInProjRefIdeal.nD Cert.SampleInProjRefIdeal.τ).loc Cert.SampleInProjRefIdeal.main_arg0)
      ∧ r.2.mem ((c.tc : Thread Cert.SampleInProjRefIdeal.nD Cert.SampleInProjRefIdeal.τ).loc Cert.SampleInProjRefIdeal.main_arg1) = m ((c.tc : Thread Cert.SampleInProjRefIdeal.nD Cert.SampleInProjRefIdeal.τ).loc Cert.SampleInProjRefIdeal.main_arg1)
      ∧ r.2.mem ((c.tc : Thread Cert.SampleInProjRefIdeal.nD Cert.SampleInProjRefIdeal.τ).loc Cert.SampleInProjRefIdeal.main_arg2) = m ((c.tc : Thread Cert.SampleInProjRefIdeal.nD Cert.SampleInProjRefIdeal.τ).loc Cert.SampleInProjRefIdeal.main_arg2)
      ∧ r.2.mem ((c.tc : Thread Cert.SampleInProjRefIdeal.nD Cert.SampleInProjRefIdeal.τ).loc Cert.SampleInProjRefIdeal.main_arg3) = m ((c.tc : Thread Cert.SampleInProjRefIdeal.nD Cert.SampleInProjRefIdeal.τ).loc Cert.SampleInProjRefIdeal.main_arg3))
      ∧ r.2.sem = fun _ => 0)

def preserves_GroupedMoe_GroupedMoeIdeal : Prop :=
  True

def algebraic_GroupedMoeIdeal_GroupedMoeRefIdeal [hGroupedMoeIdeal : Cert.GroupedMoeIdeal.Facts] [hGroupedMoeRefIdeal : Cert.GroupedMoeRefIdeal.Facts] [hPre_groups_exist : Cert.Pre_groups_exist.Facts] : Prop :=
  ∀ (m : (ℓ : Loc Cert.GroupedMoeIdeal.nD Cert.GroupedMoeIdeal.τ Cert.GroupedMoeIdeal.sig) → Buf (Elt Ideal) ℓ) (g : Dev Cert.GroupedMoeIdeal.nD → PrngReg)
    (m' : (ℓ : Loc Cert.GroupedMoeRefIdeal.nD Cert.GroupedMoeRefIdeal.τ Cert.GroupedMoeRefIdeal.sig) → Buf (Elt Ideal) ℓ) (g' : Dev Cert.GroupedMoeRefIdeal.nD → PrngReg), Pre_GroupedMoeIdeal m →
    (∀ c : Dev Cert.GroupedMoeIdeal.nD,
      m' ((c.tc : Thread Cert.GroupedMoeRefIdeal.nD Cert.GroupedMoeRefIdeal.τ).loc Cert.GroupedMoeRefIdeal.main_arg0) = m ((c.tc : Thread Cert.GroupedMoeIdeal.nD Cert.GroupedMoeIdeal.τ).loc Cert.GroupedMoeIdeal.main_arg0)
      ∧ m' ((c.tc : Thread Cert.GroupedMoeRefIdeal.nD Cert.GroupedMoeRefIdeal.τ).loc Cert.GroupedMoeRefIdeal.main_arg1) = m ((c.tc : Thread Cert.GroupedMoeIdeal.nD Cert.GroupedMoeIdeal.τ).loc Cert.GroupedMoeIdeal.main_arg1)
      ∧ m' ((c.tc : Thread Cert.GroupedMoeRefIdeal.nD Cert.GroupedMoeRefIdeal.τ).loc Cert.GroupedMoeRefIdeal.main_arg2) = m ((c.tc : Thread Cert.GroupedMoeIdeal.nD Cert.GroupedMoeIdeal.τ).loc Cert.GroupedMoeIdeal.main_arg2)
      ∧ m' ((c.tc : Thread Cert.GroupedMoeRefIdeal.nD Cert.GroupedMoeRefIdeal.τ).loc Cert.GroupedMoeRefIdeal.main_arg3) = m ((c.tc : Thread Cert.GroupedMoeIdeal.nD Cert.GroupedMoeIdeal.τ).loc Cert.GroupedMoeIdeal.main_arg3)
      ∧ m' ((c.tc : Thread Cert.GroupedMoeRefIdeal.nD Cert.GroupedMoeRefIdeal.τ).loc Cert.GroupedMoeRefIdeal.main_arg4) = m ((c.tc : Thread Cert.GroupedMoeIdeal.nD Cert.GroupedMoeIdeal.τ).loc Cert.GroupedMoeIdeal.main_arg4)
      ∧ m' ((c.tc : Thread Cert.GroupedMoeRefIdeal.nD Cert.GroupedMoeRefIdeal.τ).loc Cert.GroupedMoeRefIdeal.main_arg5) = m ((c.tc : Thread Cert.GroupedMoeIdeal.nD Cert.GroupedMoeIdeal.τ).loc Cert.GroupedMoeIdeal.main_arg5)) →
    ∃ (v0 : (c : Dev Cert.GroupedMoeIdeal.nD) → Buf (Elt Ideal) ((c.tc : Thread Cert.GroupedMoeIdeal.nD Cert.GroupedMoeIdeal.τ).loc Cert.GroupedMoeIdeal.main_v8)),
      θ_run (Cert.GroupedMoeIdeal.defs (F := Ideal)) (onTc (τ := Cert.GroupedMoeIdeal.τ) (Cert.GroupedMoeIdeal.main (F := Ideal))) ⟨m, fun _ => 0, g⟩ (fun r => ∀ c : Dev Cert.GroupedMoeIdeal.nD,
          r.2.mem ((c.tc : Thread Cert.GroupedMoeIdeal.nD Cert.GroupedMoeIdeal.τ).loc Cert.GroupedMoeIdeal.main_v8) = v0 c
          ∧ r.2.mem ((c.tc : Thread Cert.GroupedMoeIdeal.nD Cert.GroupedMoeIdeal.τ).loc Cert.GroupedMoeIdeal.main_arg0) = m ((c.tc : Thread Cert.GroupedMoeIdeal.nD Cert.GroupedMoeIdeal.τ).loc Cert.GroupedMoeIdeal.main_arg0)
          ∧ r.2.mem ((c.tc : Thread Cert.GroupedMoeIdeal.nD Cert.GroupedMoeIdeal.τ).loc Cert.GroupedMoeIdeal.main_arg1) = m ((c.tc : Thread Cert.GroupedMoeIdeal.nD Cert.GroupedMoeIdeal.τ).loc Cert.GroupedMoeIdeal.main_arg1)
          ∧ r.2.mem ((c.tc : Thread Cert.GroupedMoeIdeal.nD Cert.GroupedMoeIdeal.τ).loc Cert.GroupedMoeIdeal.main_arg2) = m ((c.tc : Thread Cert.GroupedMoeIdeal.nD Cert.GroupedMoeIdeal.τ).loc Cert.GroupedMoeIdeal.main_arg2)
          ∧ r.2.mem ((c.tc : Thread Cert.GroupedMoeIdeal.nD Cert.GroupedMoeIdeal.τ).loc Cert.GroupedMoeIdeal.main_arg3) = m ((c.tc : Thread Cert.GroupedMoeIdeal.nD Cert.GroupedMoeIdeal.τ).loc Cert.GroupedMoeIdeal.main_arg3)
          ∧ r.2.mem ((c.tc : Thread Cert.GroupedMoeIdeal.nD Cert.GroupedMoeIdeal.τ).loc Cert.GroupedMoeIdeal.main_arg4) = m ((c.tc : Thread Cert.GroupedMoeIdeal.nD Cert.GroupedMoeIdeal.τ).loc Cert.GroupedMoeIdeal.main_arg4)
          ∧ r.2.mem ((c.tc : Thread Cert.GroupedMoeIdeal.nD Cert.GroupedMoeIdeal.τ).loc Cert.GroupedMoeIdeal.main_arg5) = m ((c.tc : Thread Cert.GroupedMoeIdeal.nD Cert.GroupedMoeIdeal.τ).loc Cert.GroupedMoeIdeal.main_arg5))
      ∧ θ_run (Cert.GroupedMoeRefIdeal.defs (F := Ideal)) (onTc (τ := Cert.GroupedMoeRefIdeal.τ) (Cert.GroupedMoeRefIdeal.main (F := Ideal))) ⟨m', fun _ => 0, g'⟩ (fun r => ∀ c : Dev Cert.GroupedMoeRefIdeal.nD,
          r.2.mem ((c.tc : Thread Cert.GroupedMoeRefIdeal.nD Cert.GroupedMoeRefIdeal.τ).loc Cert.GroupedMoeRefIdeal.main_v57) = v0 c
          ∧ r.2.mem ((c.tc : Thread Cert.GroupedMoeRefIdeal.nD Cert.GroupedMoeRefIdeal.τ).loc Cert.GroupedMoeRefIdeal.main_arg0) = m' ((c.tc : Thread Cert.GroupedMoeRefIdeal.nD Cert.GroupedMoeRefIdeal.τ).loc Cert.GroupedMoeRefIdeal.main_arg0)
          ∧ r.2.mem ((c.tc : Thread Cert.GroupedMoeRefIdeal.nD Cert.GroupedMoeRefIdeal.τ).loc Cert.GroupedMoeRefIdeal.main_arg1) = m' ((c.tc : Thread Cert.GroupedMoeRefIdeal.nD Cert.GroupedMoeRefIdeal.τ).loc Cert.GroupedMoeRefIdeal.main_arg1)
          ∧ r.2.mem ((c.tc : Thread Cert.GroupedMoeRefIdeal.nD Cert.GroupedMoeRefIdeal.τ).loc Cert.GroupedMoeRefIdeal.main_arg2) = m' ((c.tc : Thread Cert.GroupedMoeRefIdeal.nD Cert.GroupedMoeRefIdeal.τ).loc Cert.GroupedMoeRefIdeal.main_arg2)
          ∧ r.2.mem ((c.tc : Thread Cert.GroupedMoeRefIdeal.nD Cert.GroupedMoeRefIdeal.τ).loc Cert.GroupedMoeRefIdeal.main_arg3) = m' ((c.tc : Thread Cert.GroupedMoeRefIdeal.nD Cert.GroupedMoeRefIdeal.τ).loc Cert.GroupedMoeRefIdeal.main_arg3)
          ∧ r.2.mem ((c.tc : Thread Cert.GroupedMoeRefIdeal.nD Cert.GroupedMoeRefIdeal.τ).loc Cert.GroupedMoeRefIdeal.main_arg4) = m' ((c.tc : Thread Cert.GroupedMoeRefIdeal.nD Cert.GroupedMoeRefIdeal.τ).loc Cert.GroupedMoeRefIdeal.main_arg4)
          ∧ r.2.mem ((c.tc : Thread Cert.GroupedMoeRefIdeal.nD Cert.GroupedMoeRefIdeal.τ).loc Cert.GroupedMoeRefIdeal.main_arg5) = m' ((c.tc : Thread Cert.GroupedMoeRefIdeal.nD Cert.GroupedMoeRefIdeal.τ).loc Cert.GroupedMoeRefIdeal.main_arg5))

def preserves_SampleMoe_SampleMoeIdeal : Prop :=
  True

def algebraic_SampleMoeIdeal_SampleMoeRefIdeal [hSampleMoeIdeal : Cert.SampleMoeIdeal.Facts] [hSampleMoeRefIdeal : Cert.SampleMoeRefIdeal.Facts] : Prop :=
  ∀ (m : (ℓ : Loc Cert.SampleMoeIdeal.nD Cert.SampleMoeIdeal.τ Cert.SampleMoeIdeal.sig) → Buf (Elt Ideal) ℓ) (g : Dev Cert.SampleMoeIdeal.nD → PrngReg)
    (m' : (ℓ : Loc Cert.SampleMoeRefIdeal.nD Cert.SampleMoeRefIdeal.τ Cert.SampleMoeRefIdeal.sig) → Buf (Elt Ideal) ℓ) (g' : Dev Cert.SampleMoeRefIdeal.nD → PrngReg), Pre_SampleMoeIdeal m →
    (∀ c : Dev Cert.SampleMoeIdeal.nD,
      m' ((c.tc : Thread Cert.SampleMoeRefIdeal.nD Cert.SampleMoeRefIdeal.τ).loc Cert.SampleMoeRefIdeal.main_arg0) = m ((c.tc : Thread Cert.SampleMoeIdeal.nD Cert.SampleMoeIdeal.τ).loc Cert.SampleMoeIdeal.main_arg0)
      ∧ m' ((c.tc : Thread Cert.SampleMoeRefIdeal.nD Cert.SampleMoeRefIdeal.τ).loc Cert.SampleMoeRefIdeal.main_arg1) = m ((c.tc : Thread Cert.SampleMoeIdeal.nD Cert.SampleMoeIdeal.τ).loc Cert.SampleMoeIdeal.main_arg1)
      ∧ m' ((c.tc : Thread Cert.SampleMoeRefIdeal.nD Cert.SampleMoeRefIdeal.τ).loc Cert.SampleMoeRefIdeal.main_arg2) = m ((c.tc : Thread Cert.SampleMoeIdeal.nD Cert.SampleMoeIdeal.τ).loc Cert.SampleMoeIdeal.main_arg2)
      ∧ m' ((c.tc : Thread Cert.SampleMoeRefIdeal.nD Cert.SampleMoeRefIdeal.τ).loc Cert.SampleMoeRefIdeal.main_arg3) = m ((c.tc : Thread Cert.SampleMoeIdeal.nD Cert.SampleMoeIdeal.τ).loc Cert.SampleMoeIdeal.main_arg3)
      ∧ m' ((c.tc : Thread Cert.SampleMoeRefIdeal.nD Cert.SampleMoeRefIdeal.τ).loc Cert.SampleMoeRefIdeal.main_arg4) = m ((c.tc : Thread Cert.SampleMoeIdeal.nD Cert.SampleMoeIdeal.τ).loc Cert.SampleMoeIdeal.main_arg4)
      ∧ m' ((c.tc : Thread Cert.SampleMoeRefIdeal.nD Cert.SampleMoeRefIdeal.τ).loc Cert.SampleMoeRefIdeal.main_arg5) = m ((c.tc : Thread Cert.SampleMoeIdeal.nD Cert.SampleMoeIdeal.τ).loc Cert.SampleMoeIdeal.main_arg5)) →
    ∃ (v0 : (c : Dev Cert.SampleMoeIdeal.nD) → Buf (Elt Ideal) ((c.tc : Thread Cert.SampleMoeIdeal.nD Cert.SampleMoeIdeal.τ).loc Cert.SampleMoeIdeal.main_v8)),
      θ_run (Cert.SampleMoeIdeal.defs (F := Ideal)) (onTc (τ := Cert.SampleMoeIdeal.τ) (Cert.SampleMoeIdeal.main (F := Ideal))) ⟨m, fun _ => 0, g⟩ (fun r => ∀ c : Dev Cert.SampleMoeIdeal.nD,
          r.2.mem ((c.tc : Thread Cert.SampleMoeIdeal.nD Cert.SampleMoeIdeal.τ).loc Cert.SampleMoeIdeal.main_v8) = v0 c
          ∧ r.2.mem ((c.tc : Thread Cert.SampleMoeIdeal.nD Cert.SampleMoeIdeal.τ).loc Cert.SampleMoeIdeal.main_arg0) = m ((c.tc : Thread Cert.SampleMoeIdeal.nD Cert.SampleMoeIdeal.τ).loc Cert.SampleMoeIdeal.main_arg0)
          ∧ r.2.mem ((c.tc : Thread Cert.SampleMoeIdeal.nD Cert.SampleMoeIdeal.τ).loc Cert.SampleMoeIdeal.main_arg1) = m ((c.tc : Thread Cert.SampleMoeIdeal.nD Cert.SampleMoeIdeal.τ).loc Cert.SampleMoeIdeal.main_arg1)
          ∧ r.2.mem ((c.tc : Thread Cert.SampleMoeIdeal.nD Cert.SampleMoeIdeal.τ).loc Cert.SampleMoeIdeal.main_arg2) = m ((c.tc : Thread Cert.SampleMoeIdeal.nD Cert.SampleMoeIdeal.τ).loc Cert.SampleMoeIdeal.main_arg2)
          ∧ r.2.mem ((c.tc : Thread Cert.SampleMoeIdeal.nD Cert.SampleMoeIdeal.τ).loc Cert.SampleMoeIdeal.main_arg3) = m ((c.tc : Thread Cert.SampleMoeIdeal.nD Cert.SampleMoeIdeal.τ).loc Cert.SampleMoeIdeal.main_arg3)
          ∧ r.2.mem ((c.tc : Thread Cert.SampleMoeIdeal.nD Cert.SampleMoeIdeal.τ).loc Cert.SampleMoeIdeal.main_arg4) = m ((c.tc : Thread Cert.SampleMoeIdeal.nD Cert.SampleMoeIdeal.τ).loc Cert.SampleMoeIdeal.main_arg4)
          ∧ r.2.mem ((c.tc : Thread Cert.SampleMoeIdeal.nD Cert.SampleMoeIdeal.τ).loc Cert.SampleMoeIdeal.main_arg5) = m ((c.tc : Thread Cert.SampleMoeIdeal.nD Cert.SampleMoeIdeal.τ).loc Cert.SampleMoeIdeal.main_arg5))
      ∧ θ_run (Cert.SampleMoeRefIdeal.defs (F := Ideal)) (onTc (τ := Cert.SampleMoeRefIdeal.τ) (Cert.SampleMoeRefIdeal.main (F := Ideal))) ⟨m', fun _ => 0, g'⟩ (fun r => ∀ c : Dev Cert.SampleMoeRefIdeal.nD,
          r.2.mem ((c.tc : Thread Cert.SampleMoeRefIdeal.nD Cert.SampleMoeRefIdeal.τ).loc Cert.SampleMoeRefIdeal.main_v42) = v0 c
          ∧ r.2.mem ((c.tc : Thread Cert.SampleMoeRefIdeal.nD Cert.SampleMoeRefIdeal.τ).loc Cert.SampleMoeRefIdeal.main_arg0) = m' ((c.tc : Thread Cert.SampleMoeRefIdeal.nD Cert.SampleMoeRefIdeal.τ).loc Cert.SampleMoeRefIdeal.main_arg0)
          ∧ r.2.mem ((c.tc : Thread Cert.SampleMoeRefIdeal.nD Cert.SampleMoeRefIdeal.τ).loc Cert.SampleMoeRefIdeal.main_arg1) = m' ((c.tc : Thread Cert.SampleMoeRefIdeal.nD Cert.SampleMoeRefIdeal.τ).loc Cert.SampleMoeRefIdeal.main_arg1)
          ∧ r.2.mem ((c.tc : Thread Cert.SampleMoeRefIdeal.nD Cert.SampleMoeRefIdeal.τ).loc Cert.SampleMoeRefIdeal.main_arg2) = m' ((c.tc : Thread Cert.SampleMoeRefIdeal.nD Cert.SampleMoeRefIdeal.τ).loc Cert.SampleMoeRefIdeal.main_arg2)
          ∧ r.2.mem ((c.tc : Thread Cert.SampleMoeRefIdeal.nD Cert.SampleMoeRefIdeal.τ).loc Cert.SampleMoeRefIdeal.main_arg3) = m' ((c.tc : Thread Cert.SampleMoeRefIdeal.nD Cert.SampleMoeRefIdeal.τ).loc Cert.SampleMoeRefIdeal.main_arg3)
          ∧ r.2.mem ((c.tc : Thread Cert.SampleMoeRefIdeal.nD Cert.SampleMoeRefIdeal.τ).loc Cert.SampleMoeRefIdeal.main_arg4) = m' ((c.tc : Thread Cert.SampleMoeRefIdeal.nD Cert.SampleMoeRefIdeal.τ).loc Cert.SampleMoeRefIdeal.main_arg4)
          ∧ r.2.mem ((c.tc : Thread Cert.SampleMoeRefIdeal.nD Cert.SampleMoeRefIdeal.τ).loc Cert.SampleMoeRefIdeal.main_arg5) = m' ((c.tc : Thread Cert.SampleMoeRefIdeal.nD Cert.SampleMoeRefIdeal.τ).loc Cert.SampleMoeRefIdeal.main_arg5))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v4_0)) (v1 : (c : Dev Cert.MemKvIdeal.nD) → Buf (Elt Ideal) ((c.tc : Thread Cert.MemKvIdeal.nD Cert.MemKvIdeal.τ).loc Cert.MemKvIdeal.main_v4_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4_0) = v0 c
          ∧ r.2.mem ((c.tc : Thread Cert.MemKvIdeal.nD Cert.MemKvIdeal.τ).loc Cert.MemKvIdeal.main_v4_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_v3) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v51)) (v1 : (c : Dev Cert.InProjIdeal.nD) → Buf (Elt Ideal) ((c.tc : Thread Cert.InProjIdeal.nD Cert.InProjIdeal.τ).loc Cert.InProjIdeal.main_v52)) (v2 : (c : Dev Cert.InProjIdeal.nD) → Buf (Elt Ideal) ((c.tc : Thread Cert.InProjIdeal.nD Cert.InProjIdeal.τ).loc Cert.InProjIdeal.main_v53)) (v3 : (c : Dev Cert.InProjIdeal.nD) → Buf (Elt Ideal) ((c.tc : Thread Cert.InProjIdeal.nD Cert.InProjIdeal.τ).loc Cert.InProjIdeal.main_v50_11)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v51) = v0 c
          ∧ r.2.mem ((c.tc : Thread Cert.InProjIdeal.nD Cert.InProjIdeal.τ).loc Cert.InProjIdeal.main_v52) = v1 c
          ∧ r.2.mem ((c.tc : Thread Cert.InProjIdeal.nD Cert.InProjIdeal.τ).loc Cert.InProjIdeal.main_v53) = v2 c
          ∧ r.2.mem ((c.tc : Thread Cert.InProjIdeal.nD Cert.InProjIdeal.τ).loc Cert.InProjIdeal.main_v50_11) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v37) = v0 c
          ∧ r.2.mem ((c.tc : Thread Cert.InProjRefIdeal.nD Cert.InProjRefIdeal.τ).loc Cert.InProjRefIdeal.main_v39) = v1 c
          ∧ r.2.mem ((c.tc : Thread Cert.InProjRefIdeal.nD Cert.InProjRefIdeal.τ).loc Cert.InProjRefIdeal.main_v75) = v2 c
          ∧ r.2.mem ((c.tc : Thread Cert.InProjRefIdeal.nD Cert.InProjRefIdeal.τ).loc Cert.InProjRefIdeal.main_v81) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_SampleInProj_SampleInProjIdeal : Prop :=
  True

def algebraic_SampleInProjIdeal_SampleInProjRefIdeal [hSampleInProjIdeal : Cert.SampleInProjIdeal.Facts] [hSampleInProjRefIdeal : Cert.SampleInProjRefIdeal.Facts] : Prop :=
  ∀ (m : (ℓ : Loc Cert.SampleInProjIdeal.nD Cert.SampleInProjIdeal.τ Cert.SampleInProjIdeal.sig) → Buf (Elt Ideal) ℓ) (g : Dev Cert.SampleInProjIdeal.nD → PrngReg)
    (m' : (ℓ : Loc Cert.SampleInProjRefIdeal.nD Cert.SampleInProjRefIdeal.τ Cert.SampleInProjRefIdeal.sig) → Buf (Elt Ideal) ℓ) (g' : Dev Cert.SampleInProjRefIdeal.nD → PrngReg), Pre_SampleInProjIdeal m →
    (∀ c : Dev Cert.SampleInProjIdeal.nD,
      m' ((c.tc : Thread Cert.SampleInProjRefIdeal.nD Cert.SampleInProjRefIdeal.τ).loc Cert.SampleInProjRefIdeal.main_arg0) = m ((c.tc : Thread Cert.SampleInProjIdeal.nD Cert.SampleInProjIdeal.τ).loc Cert.SampleInProjIdeal.main_arg0)
      ∧ m' ((c.tc : Thread Cert.SampleInProjRefIdeal.nD Cert.SampleInProjRefIdeal.τ).loc Cert.SampleInProjRefIdeal.main_arg1) = m ((c.tc : Thread Cert.SampleInProjIdeal.nD Cert.SampleInProjIdeal.τ).loc Cert.SampleInProjIdeal.main_arg1)
      ∧ m' ((c.tc : Thread Cert.SampleInProjRefIdeal.nD Cert.SampleInProjRefIdeal.τ).loc Cert.SampleInProjRefIdeal.main_arg2) = m ((c.tc : Thread Cert.SampleInProjIdeal.nD Cert.SampleInProjIdeal.τ).loc Cert.SampleInProjIdeal.main_arg2)
      ∧ m' ((c.tc : Thread Cert.SampleInProjRefIdeal.nD Cert.SampleInProjRefIdeal.τ).loc Cert.SampleInProjRefIdeal.main_arg3) = m ((c.tc : Thread Cert.SampleInProjIdeal.nD Cert.SampleInProjIdeal.τ).loc Cert.SampleInProjIdeal.main_arg3)) →
    ∃ (v0 : (c : Dev Cert.SampleInProjIdeal.nD) → Buf (Elt Ideal) ((c.tc : Thread Cert.SampleInProjIdeal.nD Cert.SampleInProjIdeal.τ).loc Cert.SampleInProjIdeal.main_v58)) (v1 : (c : Dev Cert.SampleInProjIdeal.nD) → Buf (Elt Ideal) ((c.tc : Thread Cert.SampleInProjIdeal.nD Cert.SampleInProjIdeal.τ).loc Cert.SampleInProjIdeal.main_v59)) (v2 : (c : Dev Cert.SampleInProjIdeal.nD) → Buf (Elt Ideal) ((c.tc : Thread Cert.SampleInProjIdeal.nD Cert.SampleInProjIdeal.τ).loc Cert.SampleInProjIdeal.main_v60)) (v3 : (c : Dev Cert.SampleInProjIdeal.nD) → Buf (Elt Ideal) ((c.tc : Thread Cert.SampleInProjIdeal.nD Cert.SampleInProjIdeal.τ).loc Cert.SampleInProjIdeal.main_v65)),
      θ_run (Cert.SampleInProjIdeal.defs (F := Ideal)) (onTc (τ := Cert.SampleInProjIdeal.τ) (Cert.SampleInProjIdeal.main (F := Ideal))) ⟨m, fun _ => 0, g⟩ (fun r => ∀ c : Dev Cert.SampleInProjIdeal.nD,
          r.2.mem ((c.tc : Thread Cert.SampleInProjIdeal.nD Cert.SampleInProjIdeal.τ).loc Cert.SampleInProjIdeal.main_v58) = v0 c
          ∧ r.2.mem ((c.tc : Thread Cert.SampleInProjIdeal.nD Cert.SampleInProjIdeal.τ).loc Cert.SampleInProjIdeal.main_v59) = v1 c
          ∧ r.2.mem ((c.tc : Thread Cert.SampleInProjIdeal.nD Cert.SampleInProjIdeal.τ).loc Cert.SampleInProjIdeal.main_v60) = v2 c
          ∧ r.2.mem ((c.tc : Thread Cert.SampleInProjIdeal.nD Cert.SampleInProjIdeal.τ).loc Cert.SampleInProjIdeal.main_v65) = v3 c
          ∧ r.2.mem ((c.tc : Thread Cert.SampleInProjIdeal.nD Cert.SampleInProjIdeal.τ).loc Cert.SampleInProjIdeal.main_arg0) = m ((c.tc : Thread Cert.SampleInProjIdeal.nD Cert.SampleInProjIdeal.τ).loc Cert.SampleInProjIdeal.main_arg0)
          ∧ r.2.mem ((c.tc : Thread Cert.SampleInProjIdeal.nD Cert.SampleInProjIdeal.τ).loc Cert.SampleInProjIdeal.main_arg1) = m ((c.tc : Thread Cert.SampleInProjIdeal.nD Cert.SampleInProjIdeal.τ).loc Cert.SampleInProjIdeal.main_arg1)
          ∧ r.2.mem ((c.tc : Thread Cert.SampleInProjIdeal.nD Cert.SampleInProjIdeal.τ).loc Cert.SampleInProjIdeal.main_arg2) = m ((c.tc : Thread Cert.SampleInProjIdeal.nD Cert.SampleInProjIdeal.τ).loc Cert.SampleInProjIdeal.main_arg2)
          ∧ r.2.mem ((c.tc : Thread Cert.SampleInProjIdeal.nD Cert.SampleInProjIdeal.τ).loc Cert.SampleInProjIdeal.main_arg3) = m ((c.tc : Thread Cert.SampleInProjIdeal.nD Cert.SampleInProjIdeal.τ).loc Cert.SampleInProjIdeal.main_arg3))
      ∧ θ_run (Cert.SampleInProjRefIdeal.defs (F := Ideal)) (onTc (τ := Cert.SampleInProjRefIdeal.τ) (Cert.SampleInProjRefIdeal.main (F := Ideal))) ⟨m', fun _ => 0, g'⟩ (fun r => ∀ c : Dev Cert.SampleInProjRefIdeal.nD,
          r.2.mem ((c.tc : Thread Cert.SampleInProjRefIdeal.nD Cert.SampleInProjRefIdeal.τ).loc Cert.SampleInProjRefIdeal.main_v38) = v0 c
          ∧ r.2.mem ((c.tc : Thread Cert.SampleInProjRefIdeal.nD Cert.SampleInProjRefIdeal.τ).loc Cert.SampleInProjRefIdeal.main_v40) = v1 c
          ∧ r.2.mem ((c.tc : Thread Cert.SampleInProjRefIdeal.nD Cert.SampleInProjRefIdeal.τ).loc Cert.SampleInProjRefIdeal.main_v75) = v2 c
          ∧ r.2.mem ((c.tc : Thread Cert.SampleInProjRefIdeal.nD Cert.SampleInProjRefIdeal.τ).loc Cert.SampleInProjRefIdeal.main_v81) = v3 c
          ∧ r.2.mem ((c.tc : Thread Cert.SampleInProjRefIdeal.nD Cert.SampleInProjRefIdeal.τ).loc Cert.SampleInProjRefIdeal.main_arg0) = m' ((c.tc : Thread Cert.SampleInProjRefIdeal.nD Cert.SampleInProjRefIdeal.τ).loc Cert.SampleInProjRefIdeal.main_arg0)
          ∧ r.2.mem ((c.tc : Thread Cert.SampleInProjRefIdeal.nD Cert.SampleInProjRefIdeal.τ).loc Cert.SampleInProjRefIdeal.main_arg1) = m' ((c.tc : Thread Cert.SampleInProjRefIdeal.nD Cert.SampleInProjRefIdeal.τ).loc Cert.SampleInProjRefIdeal.main_arg1)
          ∧ r.2.mem ((c.tc : Thread Cert.SampleInProjRefIdeal.nD Cert.SampleInProjRefIdeal.τ).loc Cert.SampleInProjRefIdeal.main_arg2) = m' ((c.tc : Thread Cert.SampleInProjRefIdeal.nD Cert.SampleInProjRefIdeal.τ).loc Cert.SampleInProjRefIdeal.main_arg2)
          ∧ r.2.mem ((c.tc : Thread Cert.SampleInProjRefIdeal.nD Cert.SampleInProjRefIdeal.τ).loc Cert.SampleInProjRefIdeal.main_arg3) = m' ((c.tc : Thread Cert.SampleInProjRefIdeal.nD Cert.SampleInProjRefIdeal.τ).loc Cert.SampleInProjRefIdeal.main_arg3))

def Claim : Prop :=
  ∃ (hGroupedMoe : Cert.GroupedMoe.Facts) (hGroupedMoeIdeal : Cert.GroupedMoeIdeal.Facts) (hGroupedMoeRefIdeal : Cert.GroupedMoeRefIdeal.Facts) (hSampleMoe : Cert.SampleMoe.Facts) (hSampleMoeIdeal : Cert.SampleMoeIdeal.Facts) (hSampleMoeRefIdeal : Cert.SampleMoeRefIdeal.Facts) (hMemKv : Cert.MemKv.Facts) (hMemKvIdeal : Cert.MemKvIdeal.Facts) (hMemKvRefIdeal : Cert.MemKvRefIdeal.Facts) (hInProj : Cert.InProj.Facts) (hInProjIdeal : Cert.InProjIdeal.Facts) (hInProjRefIdeal : Cert.InProjRefIdeal.Facts) (hSampleInProj : Cert.SampleInProj.Facts) (hSampleInProjIdeal : Cert.SampleInProjIdeal.Facts) (hSampleInProjRefIdeal : Cert.SampleInProjRefIdeal.Facts) (hPre_groups_exist : Cert.Pre_groups_exist.Facts),
    quiescent_GroupedMoe (hGroupedMoe := hGroupedMoe) (hPre_groups_exist := hPre_groups_exist)
    ∧ quiescent_GroupedMoeIdeal (hGroupedMoeIdeal := hGroupedMoeIdeal) (hPre_groups_exist := hPre_groups_exist)
    ∧ quiescent_GroupedMoeRefIdeal (hGroupedMoeRefIdeal := hGroupedMoeRefIdeal) (hPre_groups_exist := hPre_groups_exist)
    ∧ quiescent_SampleMoe (hSampleMoe := hSampleMoe)
    ∧ quiescent_SampleMoeIdeal (hSampleMoeIdeal := hSampleMoeIdeal)
    ∧ quiescent_SampleMoeRefIdeal (hSampleMoeRefIdeal := hSampleMoeRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_InProj (hInProj := hInProj)
    ∧ quiescent_InProjIdeal (hInProjIdeal := hInProjIdeal)
    ∧ quiescent_InProjRefIdeal (hInProjRefIdeal := hInProjRefIdeal)
    ∧ quiescent_SampleInProj (hSampleInProj := hSampleInProj)
    ∧ quiescent_SampleInProjIdeal (hSampleInProjIdeal := hSampleInProjIdeal)
    ∧ quiescent_SampleInProjRefIdeal (hSampleInProjRefIdeal := hSampleInProjRefIdeal)
    ∧ preserves_GroupedMoe_GroupedMoeIdeal
    ∧ algebraic_GroupedMoeIdeal_GroupedMoeRefIdeal (hGroupedMoeIdeal := hGroupedMoeIdeal) (hGroupedMoeRefIdeal := hGroupedMoeRefIdeal) (hPre_groups_exist := hPre_groups_exist)
    ∧ preserves_SampleMoe_SampleMoeIdeal
    ∧ algebraic_SampleMoeIdeal_SampleMoeRefIdeal (hSampleMoeIdeal := hSampleMoeIdeal) (hSampleMoeRefIdeal := hSampleMoeRefIdeal)
    ∧ preserves_MemKv_MemKvIdeal
    ∧ algebraic_MemKvIdeal_MemKvRefIdeal (hMemKvIdeal := hMemKvIdeal) (hMemKvRefIdeal := hMemKvRefIdeal)
    ∧ preserves_InProj_InProjIdeal
    ∧ algebraic_InProjIdeal_InProjRefIdeal (hInProjIdeal := hInProjIdeal) (hInProjRefIdeal := hInProjRefIdeal)
    ∧ preserves_SampleInProj_SampleInProjIdeal
    ∧ algebraic_SampleInProjIdeal_SampleInProjRefIdeal (hSampleInProjIdeal := hSampleInProjIdeal) (hSampleInProjRefIdeal := hSampleInProjRefIdeal)
-- ==== Pre_groups_exist.lean ====
abbrev S36864x1152 : Shape := ⟨2, ![36864, 1152]⟩
abbrev S36 : Shape := ⟨1, ![36]⟩
abbrev S1x32x1024x512 : Shape := ⟨4, ![1, 32, 1024, 512]⟩
abbrev S1x32x256x1024 : Shape := ⟨4, ![1, 32, 256, 1024]⟩
abbrev S1x1024 : Shape := ⟨2, ![1, 1024]⟩
abbrev S_ : Shape := ⟨0, ![]⟩

class Facts : Prop where
  bcast_S_S36 : S_.BroadcastsInDim S36 (![] : Fin 0 → Fin S36.rank)
  reducesTo_S36_S_d0 : S36.ReducesTo [0] S_
  h_S_ : 0 < S_.numel

variable [Facts]

def fn {F : FTy → Type} [FloatOps F] (main_arg0 : FVec F S36864x1152 .f32) (main_arg1 : IVec S36 32) (main_arg2 : FVec F S1x32x1024x512 .f32) (main_arg3 : FVec F S1x32x256x1024 .f32) (main_arg4 : FVec F S1x1024 .f32) (main_arg5 : FVec F S1x1024 .f32) : IVec S_ 1 :=
  let main_c : IVec S_ 32 := constantI S_ 32 4#32
  let main_v0 : IVec S36 32 := broadcastInDim S36 ![] bcast_S_S36 main_c
  let main_v1 : IVec S36 1 := cmpi .slt main_arg1 main_v0
  let main_c_0 : IVec S_ 1 := constantI S_ 1 1#1
  let main_v2 : IVec S_ 1 := (fun x v => Host.reduce IntOp.andi x v reducesTo_S36_S_d0 h_S_) main_v1 main_c_0
  main_v2
-- ==== GroupedMoe.lean ====
abbrev S36864x1152 : Shape := ⟨2, ![36864, 1152]⟩
abbrev S36 : Shape := ⟨1, ![36]⟩
abbrev S1x32x1024x512 : Shape := ⟨4, ![1, 32, 1024, 512]⟩
abbrev S1x32x256x1024 : Shape := ⟨4, ![1, 32, 256, 1024]⟩
abbrev S1x1024 : Shape := ⟨2, ![1, 1024]⟩
abbrev S32x1024x512 : Shape := ⟨3, ![32, 1024, 512]⟩
abbrev S32x256x1024 : Shape := ⟨3, ![32, 256, 1024]⟩
abbrev S1024 : Shape := ⟨1, ![1024]⟩
abbrev S36864x1024 : Shape := ⟨2, ![36864, 1024]⟩
abbrev S1024x1152 : Shape := ⟨2, ![1024, 1152]⟩
abbrev S1x1024x512 : Shape := ⟨3, ![1, 1024, 512]⟩
abbrev S1 : Shape := ⟨1, ![1]⟩
abbrev S1x256x1024 : Shape := ⟨3, ![1, 256, 1024]⟩
abbrev S1024x1024 : Shape := ⟨2, ![1024, 1024]⟩
abbrev S1024x512 : Shape := ⟨2, ![1024, 512]⟩
abbrev S1024x256 : Shape := ⟨2, ![1024, 256]⟩
abbrev S1024x128 : Shape := ⟨2, ![1024, 128]⟩
abbrev S1024x1 : Shape := ⟨2, ![1024, 1]⟩
abbrev S256x1024 : Shape := ⟨2, ![256, 1024]⟩

abbrev nBuf : Space → Nat
  | .hbm => 14
  | .vmem => 12
  | .smem => 1
  | _ => 0

abbrev bufTy : (tb : Table) → Fin (tcTables nBuf tb) → BufTy
  | .hbm, ⟨0, _⟩ => ⟨S36864x1152, .f32⟩
  | .hbm, ⟨1, _⟩ => ⟨S1x32x1024x512, .f32⟩
  | .hbm, ⟨2, _⟩ => ⟨S1x32x256x1024, .f32⟩
  | .hbm, ⟨3, _⟩ => ⟨S1x1024, .f32⟩
  | .hbm, ⟨4, _⟩ => ⟨S1x1024, .f32⟩
  | .hbm, ⟨5, _⟩ => ⟨S32x1024x512, .f32⟩
  | .hbm, ⟨6, _⟩ => ⟨S32x1024x512, .bf16⟩
  | .hbm, ⟨7, _⟩ => ⟨S32x256x1024, .f32⟩
  | .hbm, ⟨8, _⟩ => ⟨S32x256x1024, .bf16⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S36864x1024, .f32⟩
  | .local _ .vmem, ⟨0, _⟩ => ⟨S1024x1152, .f32⟩
  | .local _ .vmem, ⟨1, _⟩ => ⟨S1024x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | .local _ .smem, ⟨0, _⟩ => ⟨S36, .i32⟩
  | _, _ => ⟨S36864x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![36, 8], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .slt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sge v1 c0_i32_1
  let v6 : BitVec 32 := Scalar.extui v5
  let c0_i32_2 : BitVec 32 := 0#32
  let v7 : BitVec 1 := Scalar.cmpi .ne v6 c0_i32_2
  v7

def k0_cond4 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_23 : BitVec 32 := 0#32
  let v49 : BitVec 1 := Scalar.cmpi .ne v48 c0_i32_23
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S36) ![v0.toNat] S1.size (k0_off1_inb i)) numel1_S1
  let c0_i32 : BitVec 32 := 0#32
  let v2 : BitVec 32 := Scalar.maxsi v1 c0_i32
  let c8_i32 : BitVec 32 := 8#32
  let v3 : BitVec 32 := Scalar.muli v2 c8_i32
  let v4 : BitVec 32 := Scalar.addi v3 arg1
  let c0_i32_0 : BitVec 32 := 0#32
  let c0_i32_1 : BitVec 32 := 0#32
  let c0_i32_2 : BitVec 32 := 0#32
  ![v4.toNat, c0_i32_0.toNat, c0_i32_1.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S36) ![v0.toNat] S1.size (k0_off1_inb i)) numel1_S1
  let c0_i32 : BitVec 32 := 0#32
  let v2 : BitVec 32 := Scalar.maxsi v1 c0_i32
  let c8_i32 : BitVec 32 := 8#32
  let v3 : BitVec 32 := Scalar.muli v2 c8_i32
  let v4 : BitVec 32 := Scalar.addi v3 arg1
  let c0_i32_0 : BitVec 32 := 0#32
  let c0_i32_1 : BitVec 32 := 0#32
  let c0_i32_2 : BitVec 32 := 0#32
  ![v4.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GroupedMoeRefIdeal.lean ====
abbrev S36864x1152 : Shape := ⟨2, ![36864, 1152]⟩
abbrev S36 : Shape := ⟨1, ![36]⟩
abbrev S1x32x1024x512 : Shape := ⟨4, ![1, 32, 1024, 512]⟩
abbrev S1x32x256x1024 : Shape := ⟨4, ![1, 32, 256, 1024]⟩
abbrev S1x1024 : Shape := ⟨2, ![1, 1024]⟩
abbrev S36864x1024 : Shape := ⟨2, ![36864, 1024]⟩
abbrev S36864x32 : Shape := ⟨2, ![36864, 32]⟩
abbrev S36x1024 : Shape := ⟨2, ![36, 1024]⟩
abbrev S36864 : Shape := ⟨1, ![36864]⟩
abbrev S36864x1 : Shape := ⟨2, ![36864, 1]⟩
abbrev S32 : Shape := ⟨1, ![32]⟩
abbrev S1x32 : Shape := ⟨2, ![1, 32]⟩
abbrev S_ : Shape := ⟨0, ![]⟩
abbrev S32x1024x512 : Shape := ⟨3, ![32, 1024, 512]⟩
abbrev S32x256x1024 : Shape := ⟨3, ![32, 256, 1024]⟩
abbrev S32x512x36864 : Shape := ⟨3, ![32, 512, 36864]⟩
abbrev S32x36864x512 : Shape := ⟨3, ![32, 36864, 512]⟩
abbrev S32x36864x256 : Shape := ⟨3, ![32, 36864, 256]⟩
abbrev S32x36864 : Shape := ⟨2, ![32, 36864]⟩
abbrev S32x36864x1 : Shape := ⟨3, ![32, 36864, 1]⟩
abbrev S32x36864x1024 : Shape := ⟨3, ![32, 36864, 1024]⟩
abbrev S1024 : Shape := ⟨1, ![1024]⟩

abbrev nBuf : Space → Nat
  | .hbm => 104
  | .vmem => 0
  | .smem => 0
  | _ => 0

abbrev bufTy : (tb : Table) → Fin (tcTables nBuf tb) → BufTy
  | .hbm, ⟨0, _⟩ => ⟨S36864x1152, .f32⟩
  | .hbm, ⟨1, _⟩ => ⟨S36, .i32⟩
  | .hbm, ⟨2, _⟩ => ⟨S1x32x1024x512, .f32⟩
  | .hbm, ⟨3, _⟩ => ⟨S1x32x256x1024, .f32⟩
  | .hbm, ⟨4, _⟩ => ⟨S1x1024, .f32⟩
  | .hbm, ⟨5, _⟩ => ⟨S1x1024, .f32⟩
  | .hbm, ⟨6, _⟩ => ⟨S36864x1024, .f32⟩
  | .hbm, ⟨7, _⟩ => ⟨S36864x32, .f32⟩
  | .hbm, ⟨8, _⟩ => ⟨S36x1024, .i32⟩
  | .hbm, ⟨9, _⟩ => ⟨S36864, .i32⟩
  | .hbm, ⟨10, _⟩ => ⟨S36864x1, .i32⟩
  | .hbm, ⟨11, _⟩ => ⟨S32, .i32⟩
  | .hbm, ⟨12, _⟩ => ⟨S1x32, .i32⟩
  | .hbm, ⟨13, _⟩ => ⟨S_, .i32⟩
  | .hbm, ⟨14, _⟩ => ⟨S_, .i32⟩
  | .hbm, ⟨15, _⟩ => ⟨S1x32, .i32⟩
  | .hbm, ⟨16, _⟩ => ⟨S1x32, .i32⟩
  | .hbm, ⟨17, _⟩ => ⟨S1x32, .i32⟩
  | .hbm, ⟨18, _⟩ => ⟨S_, .i32⟩
  | .hbm, ⟨19, _⟩ => ⟨S1x32, .i32⟩
  | .hbm, ⟨20, _⟩ => ⟨S1x32, .i1⟩
  | .hbm, ⟨21, _⟩ => ⟨S1x32, .i32⟩
  | .hbm, ⟨22, _⟩ => ⟨S1x32, .i32⟩
  | .hbm, ⟨23, _⟩ => ⟨S_, .i32⟩
  | .hbm, ⟨24, _⟩ => ⟨S1x32, .i32⟩
  | .hbm, ⟨25, _⟩ => ⟨S1x32, .i1⟩
  | .hbm, ⟨26, _⟩ => ⟨S1x32, .i1⟩
  | .hbm, ⟨27, _⟩ => ⟨S_, .i32⟩
  | .hbm, ⟨28, _⟩ => ⟨S1x32, .i32⟩
  | .hbm, ⟨29, _⟩ => ⟨S1x32, .i32⟩
  | .hbm, ⟨30, _⟩ => ⟨S1x32, .i32⟩
  | .hbm, ⟨31, _⟩ => ⟨S36864x32, .i32⟩
  | .hbm, ⟨32, _⟩ => ⟨S36864x32, .i32⟩
  | .hbm, ⟨33, _⟩ => ⟨S36864x32, .i1⟩
  | .hbm, ⟨34, _⟩ => ⟨S_, .f32⟩
  | .hbm, ⟨35, _⟩ => ⟨S_, .f32⟩
  | .hbm, ⟨36, _⟩ => ⟨S36864x32, .f32⟩
  | .hbm, ⟨37, _⟩ => ⟨S36864x32, .f32⟩
  | .hbm, ⟨38, _⟩ => ⟨S32x1024x512, .f32⟩
  | .hbm, ⟨39, _⟩ => ⟨S32x256x1024, .f32⟩
  | .hbm, ⟨40, _⟩ => ⟨S32x512x36864, .f32⟩
  | .hbm, ⟨41, _⟩ => ⟨S32x36864x512, .f32⟩
  | .hbm, ⟨42, _⟩ => ⟨S32x36864x256, .f32⟩
  | .hbm, ⟨43, _⟩ => ⟨S32x36864x256, .f32⟩
  | .hbm, ⟨44, _⟩ => ⟨S32x36864x256, .f32⟩
  | .hbm, ⟨45, _⟩ => ⟨S_, .f32⟩
  | .hbm, ⟨46, _⟩ => ⟨S32x36864x256, .f32⟩
  | .hbm, ⟨47, _⟩ => ⟨S32x36864x256, .f32⟩
  | .hbm, ⟨48, _⟩ => ⟨S_, .f32⟩
  | .hbm, ⟨49, _⟩ => ⟨S32x36864x256, .f32⟩
  | .hbm, ⟨50, _⟩ => ⟨S32x36864x256, .f32⟩
  | .hbm, ⟨51, _⟩ => ⟨S32x36864x256, .f32⟩
  | .hbm, ⟨52, _⟩ => ⟨S32x36864x256, .f32⟩
  | .hbm, ⟨53, _⟩ => ⟨S32x36864x256, .f32⟩
  | .hbm, ⟨54, _⟩ => ⟨S32x36864, .f32⟩
  | .hbm, ⟨55, _⟩ => ⟨S32x36864x1, .f32⟩
  | .hbm, ⟨56, _⟩ => ⟨S32x36864x1024, .f32⟩
  | .hbm, ⟨57, _⟩ => ⟨S32x36864x1024, .f32⟩
  | .hbm, ⟨58, _⟩ => ⟨S32x36864x1024, .f32⟩
  | .hbm, ⟨59, _⟩ => ⟨S_, .f32⟩
  | .hbm, ⟨60, _⟩ => ⟨S36864x1024, .f32⟩
  | .hbm, ⟨61, _⟩ => ⟨S_, .i32⟩
  | .hbm, ⟨62, _⟩ => ⟨S36864x1, .i32⟩
  | .hbm, ⟨63, _⟩ => ⟨S36864x1, .i1⟩
  | .hbm, ⟨64, _⟩ => ⟨S_, .f32⟩
  | .hbm, ⟨65, _⟩ => ⟨S36864x1024, .f32⟩
  | .hbm, ⟨66, _⟩ => ⟨S36864x1024, .f32⟩
  | .hbm, ⟨67, _⟩ => ⟨S36864x1024, .f32⟩
  | .hbm, ⟨68, _⟩ => ⟨S1024, .f32⟩
  | .hbm, ⟨69, _⟩ => ⟨S1024, .f32⟩
  | .hbm, ⟨70, _⟩ => ⟨S_, .f32⟩
  | .hbm, ⟨71, _⟩ => ⟨S36864, .f32⟩
  | .hbm, ⟨72, _⟩ => ⟨S36864x1, .f32⟩
  | .hbm, ⟨73, _⟩ => ⟨S_, .f32⟩
  | .hbm, ⟨74, _⟩ => ⟨S36864x1, .f32⟩
  | .hbm, ⟨75, _⟩ => ⟨S36864x1, .f32⟩
  | .hbm, ⟨76, _⟩ => ⟨S36864x1024, .f32⟩
  | .hbm, ⟨77, _⟩ => ⟨S36864x1024, .f32⟩
  | .hbm, ⟨78, _⟩ => ⟨S36864x1024, .f32⟩
  | .hbm, ⟨79, _⟩ => ⟨S_, .f32⟩
  | .hbm, ⟨80, _⟩ => ⟨S36864, .f32⟩
  | .hbm, ⟨81, _⟩ => ⟨S36864x1, .f32⟩
  | .hbm, ⟨82, _⟩ => ⟨S_, .f32⟩
  | .hbm, ⟨83, _⟩ => ⟨S36864x1, .f32⟩
  | .hbm, ⟨84, _⟩ => ⟨S36864x1, .f32⟩
  | .hbm, ⟨85, _⟩ => ⟨S36864x1024, .f32⟩
  | .hbm, ⟨86, _⟩ => ⟨S36864x1024, .f32⟩
  | .hbm, ⟨87, _⟩ => ⟨S_, .f32⟩
  | .hbm, ⟨88, _⟩ => ⟨S36864x1, .f32⟩
  | .hbm, ⟨89, _⟩ => ⟨S36864x1, .f32⟩
  | .hbm, ⟨90, _⟩ => ⟨S36864x1, .f32⟩
  | .hbm, ⟨91, _⟩ => ⟨S36864x1024, .f32⟩
  | .hbm, ⟨92, _⟩ => ⟨S36864x1024, .f32⟩
  | .hbm, ⟨93, _⟩ => ⟨S1x1024, .f32⟩
  | .hbm, ⟨94, _⟩ => ⟨S36864x1024, .f32⟩
  | .hbm, ⟨95, _⟩ => ⟨S36864x1024, .f32⟩
  | .hbm, ⟨96, _⟩ => ⟨S1x1024, .f32⟩
  | .hbm, ⟨97, _⟩ => ⟨S36864x1024, .f32⟩
  | .hbm, ⟨98, _⟩ => ⟨S36864x1024, .f32⟩
  | .hbm, ⟨99, _⟩ => ⟨S_, .f32⟩
  | .hbm, ⟨100, _⟩ => ⟨S_, .f32⟩
  | .hbm, ⟨101, _⟩ => ⟨S36864x1024, .i1⟩
  | .hbm, ⟨102, _⟩ => ⟨S36864x1024, .f32⟩
  | .hbm, ⟨103, _⟩ => ⟨S36864x1024, .f32⟩
  | _, _ => ⟨S36864x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_0 : Ref sig .tc := ⟨.hbm, 59, rfl⟩
abbrev main_v25 : Ref sig .tc := ⟨.hbm, 60, rfl⟩
abbrev main_c_1 : Ref sig .tc := ⟨.hbm, 61, rfl⟩
abbrev main_v26 : Ref sig .tc := ⟨.hbm, 62, rfl⟩
abbrev main_v27 : Ref sig .tc := ⟨.hbm, 63, rfl⟩
abbrev main_cst_2 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_3 : Ref sig .tc := ⟨.hbm, 70, rfl⟩
abbrev main_v33 : Ref sig .tc := ⟨.hbm, 71, rfl⟩
abbrev main_v34 : Ref sig .tc := ⟨.hbm, 72, rfl⟩
abbrev main_cst_4 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_5 : Ref sig .tc := ⟨.hbm, 79, rfl⟩
abbrev main_v40 : Ref sig .tc := ⟨.hbm, 80, rfl⟩
abbrev main_v41 : Ref sig .tc := ⟨.hbm, 81, rfl⟩
abbrev main_cst_6 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_7 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_cst_8 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v57 : Ref sig .tc := ⟨.hbm, 103, rfl⟩

abbrev nD : Nat := 1
abbrev τ : Topo := Topo.v7x

variable {F : FTy → Type} [FloatOps F]
-- ==== SampleMoe.lean ====
abbrev S32x1024 : Shape := ⟨2, ![32, 1024]⟩
abbrev S32x32 : Shape := ⟨2, ![32, 32]⟩
abbrev S1x32x1024x512 : Shape := ⟨4, ![1, 32, 1024, 512]⟩
abbrev S1x32x256x1024 : Shape := ⟨4, ![1, 32, 256, 1024]⟩
abbrev S1x1024 : Shape := ⟨2, ![1, 1024]⟩
abbrev S32x1024x512 : Shape := ⟨3, ![32, 1024, 512]⟩
abbrev S32x256x1024 : Shape := ⟨3, ![32, 256, 1024]⟩
abbrev S1024 : Shape := ⟨1, ![1024]⟩
abbrev S1x1024x512 : Shape := ⟨3, ![1, 1024, 512]⟩
abbrev S1x256x1024 : Shape := ⟨3, ![1, 256, 1024]⟩
abbrev S1024x512 : Shape := ⟨2, ![1024, 512]⟩
abbrev S32x512 : Shape := ⟨2, ![32, 512]⟩
abbrev S32x256 : Shape := ⟨2, ![32, 256]⟩
abbrev S32 : Shape := ⟨1, ![32]⟩
abbrev S32x1 : Shape := ⟨2, ![32, 1]⟩
abbrev S256x1024 : Shape := ⟨2, ![256, 1024]⟩

abbrev nBuf : Space → Nat
  | .hbm => 15
  | .vmem => 11
  | .smem => 0
  | _ => 0

abbrev bufTy : (tb : Table) → Fin (tcTables nBuf tb) → BufTy
  | .hbm, ⟨0, _⟩ => ⟨S32x1024, .f32⟩
  | .hbm, ⟨1, _⟩ => ⟨S32x32, .f32⟩
  | .hbm, ⟨2, _⟩ => ⟨S1x32x1024x512, .f32⟩
  | .hbm, ⟨3, _⟩ => ⟨S1x32x256x1024, .f32⟩
  | .hbm, ⟨4, _⟩ => ⟨S1x1024, .f32⟩
  | .hbm, ⟨5, _⟩ => ⟨S1x1024, .f32⟩
  | .hbm, ⟨6, _⟩ => ⟨S32x1024x512, .f32⟩
  | .hbm, ⟨7, _⟩ => ⟨S32x1024x512, .bf16⟩
  | .hbm, ⟨8, _⟩ => ⟨S32x256x1024, .f32⟩
  | .hbm, ⟨9, _⟩ => ⟨S32x256x1024, .bf16⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S32x1024, .f32⟩
  | .local _ .vmem, ⟨0, _⟩ => ⟨S32x1024, .f32⟩
  | .local _ .vmem, ⟨1, _⟩ => ⟨S32x32, .f32⟩
  | .local _ .vmem, ⟨2, _⟩ => ⟨S1x1024x512, .bf16⟩
  | .local _ .vmem, ⟨3, _⟩ => ⟨S1x1024x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1024, .f32⟩
  | .local _ .vmem, ⟨7, _⟩ => ⟨S1x1024, .f32⟩
  | .local _ .vmem, ⟨8, _⟩ => ⟨S32x1024, .f32⟩
  | .local _ .vmem, ⟨9, _⟩ => ⟨S32x1024, .bf16⟩
  | .local _ .vmem, ⟨10, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v37 : BitVec 1 := Scalar.cmpi .eq arg1 c31_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== SampleMoeRefIdeal.lean ====
abbrev S32x1024 : Shape := ⟨2, ![32, 1024]⟩
abbrev S32x32 : Shape := ⟨2, ![32, 32]⟩
abbrev S1x32x1024x512 : Shape := ⟨4, ![1, 32, 1024, 512]⟩
abbrev S1x32x256x1024 : Shape := ⟨4, ![1, 32, 256, 1024]⟩
abbrev S1x1024 : Shape := ⟨2, ![1, 1024]⟩
abbrev S32x1024x512 : Shape := ⟨3, ![32, 1024, 512]⟩
abbrev S32x256x1024 : Shape := ⟨3, ![32, 256, 1024]⟩
abbrev S32x512x32 : Shape := ⟨3, ![32, 512, 32]⟩
abbrev S32x32x512 : Shape := ⟨3, ![32, 32, 512]⟩
abbrev S32x32x256 : Shape := ⟨3, ![32, 32, 256]⟩
abbrev S_ : Shape := ⟨0, ![]⟩
abbrev S32x32x1 : Shape := ⟨3, ![32, 32, 1]⟩
abbrev S32x32x1024 : Shape := ⟨3, ![32, 32, 1024]⟩
abbrev S1024 : Shape := ⟨1, ![1024]⟩
abbrev S32 : Shape := ⟨1, ![32]⟩
abbrev S32x1 : Shape := ⟨2, ![32, 1]⟩

abbrev nBuf : Space → Nat
  | .hbm => 64
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x32, .f32⟩
  | .hbm, ⟨2, _⟩ => ⟨S1x32x1024x512, .f32⟩
  | .hbm, ⟨3, _⟩ => ⟨S1x32x256x1024, .f32⟩
  | .hbm, ⟨4, _⟩ => ⟨S1x1024, .f32⟩
  | .hbm, ⟨5, _⟩ => ⟨S1x1024, .f32⟩
  | .hbm, ⟨6, _⟩ => ⟨S32x1024x512, .f32⟩
  | .hbm, ⟨7, _⟩ => ⟨S32x256x1024, .f32⟩
  | .hbm, ⟨8, _⟩ => ⟨S32x512x32, .f32⟩
  | .hbm, ⟨9, _⟩ => ⟨S32x32x512, .f32⟩
  | .hbm, ⟨10, _⟩ => ⟨S32x32x256, .f32⟩
  | .hbm, ⟨11, _⟩ => ⟨S32x32x256, .f32⟩
  | .hbm, ⟨12, _⟩ => ⟨S32x32x256, .f32⟩
  | .hbm, ⟨13, _⟩ => ⟨S_, .f32⟩
  | .hbm, ⟨14, _⟩ => ⟨S32x32x256, .f32⟩
  | .hbm, ⟨15, _⟩ => ⟨S32x32x256, .f32⟩
  | .hbm, ⟨16, _⟩ => ⟨S_, .f32⟩
  | .hbm, ⟨17, _⟩ => ⟨S32x32x256, .f32⟩
  | .hbm, ⟨18, _⟩ => ⟨S32x32x256, .f32⟩
  | .hbm, ⟨19, _⟩ => ⟨S32x32x256, .f32⟩
  | .hbm, ⟨20, _⟩ => ⟨S32x32x256, .f32⟩
  | .hbm, ⟨21, _⟩ => ⟨S32x32x256, .f32⟩
  | .hbm, ⟨22, _⟩ => ⟨S32x32, .f32⟩
  | .hbm, ⟨23, _⟩ => ⟨S32x32x1, .f32⟩
  | .hbm, ⟨24, _⟩ => ⟨S32x32x1024, .f32⟩
  | .hbm, ⟨25, _⟩ => ⟨S32x32x1024, .f32⟩
  | .hbm, ⟨26, _⟩ => ⟨S32x32x1024, .f32⟩
  | .hbm, ⟨27, _⟩ => ⟨S_, .f32⟩
  | .hbm, ⟨28, _⟩ => ⟨S32x1024, .f32⟩
  | .hbm, ⟨29, _⟩ => ⟨S_, .f32⟩
  | .hbm, ⟨30, _⟩ => ⟨S32x1024, .f32⟩
  | .hbm, ⟨31, _⟩ => ⟨S32x1024, .f32⟩
  | .hbm, ⟨32, _⟩ => ⟨S32x1024, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S32, .f32⟩
  | .hbm, ⟨37, _⟩ => ⟨S32x1, .f32⟩
  | .hbm, ⟨38, _⟩ => ⟨S_, .f32⟩
  | .hbm, ⟨39, _⟩ => ⟨S32x1, .f32⟩
  | .hbm, ⟨40, _⟩ => ⟨S32x1, .f32⟩
  | .hbm, ⟨41, _⟩ => ⟨S32x1024, .f32⟩
  | .hbm, ⟨42, _⟩ => ⟨S32x1024, .f32⟩
  | .hbm, ⟨43, _⟩ => ⟨S32x1024, .f32⟩
  | .hbm, ⟨44, _⟩ => ⟨S_, .f32⟩
  | .hbm, ⟨45, _⟩ => ⟨S32, .f32⟩
  | .hbm, ⟨46, _⟩ => ⟨S32x1, .f32⟩
  | .hbm, ⟨47, _⟩ => ⟨S_, .f32⟩
  | .hbm, ⟨48, _⟩ => ⟨S32x1, .f32⟩
  | .hbm, ⟨49, _⟩ => ⟨S32x1, .f32⟩
  | .hbm, ⟨50, _⟩ => ⟨S32x1024, .f32⟩
  | .hbm, ⟨51, _⟩ => ⟨S32x1024, .f32⟩
  | .hbm, ⟨52, _⟩ => ⟨S_, .f32⟩
  | .hbm, ⟨53, _⟩ => ⟨S32x1, .f32⟩
  | .hbm, ⟨54, _⟩ => ⟨S32x1, .f32⟩
  | .hbm, ⟨55, _⟩ => ⟨S32x1, .f32⟩
  | .hbm, ⟨56, _⟩ => ⟨S32x1024, .f32⟩
  | .hbm, ⟨57, _⟩ => ⟨S32x1024, .f32⟩
  | .hbm, ⟨58, _⟩ => ⟨S1x1024, .f32⟩
  | .hbm, ⟨59, _⟩ => ⟨S32x1024, .f32⟩
  | .hbm, ⟨60, _⟩ => ⟨S32x1024, .f32⟩
  | .hbm, ⟨61, _⟩ => ⟨S1x1024, .f32⟩
  | .hbm, ⟨62, _⟩ => ⟨S32x1024, .f32⟩
  | .hbm, ⟨63, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== MemKv.lean ====
abbrev S16x256x1024 : Shape := ⟨3, ![16, 256, 1024]⟩
abbrev S1x1024x256 : Shape := ⟨3, ![1, 1024, 256]⟩
abbrev S1024x256 : Shape := ⟨2, ![1024, 256]⟩
abbrev S16x256x256 : Shape := ⟨3, ![16, 256, 256]⟩
abbrev S1x256x1024 : Shape := ⟨3, ![1, 256, 1024]⟩
abbrev S1x256x256 : Shape := ⟨3, ![1, 256, 256]⟩
abbrev S256x1024 : Shape := ⟨2, ![256, 1024]⟩
abbrev S256x256 : Shape := ⟨2, ![256, 256]⟩

abbrev nBuf : Space → Nat
  | .hbm => 9
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S1x1024x256, .f32⟩
  | .hbm, ⟨2, _⟩ => ⟨S1x1024x256, .f32⟩
  | .hbm, ⟨3, _⟩ => ⟨S1024x256, .f32⟩
  | .hbm, ⟨4, _⟩ => ⟨S1024x256, .bf16⟩
  | .hbm, ⟨5, _⟩ => ⟨S1024x256, .f32⟩
  | .hbm, ⟨6, _⟩ => ⟨S1024x256, .bf16⟩
  | .hbm, ⟨7, _⟩ => ⟨S16x256x256, .f32⟩
  | .hbm, ⟨8, _⟩ => ⟨S16x256x256, .f32⟩
  | .local _ .vmem, ⟨0, _⟩ => ⟨S1x256x1024, .f32⟩
  | .local _ .vmem, ⟨1, _⟩ => ⟨S1x256x1024, .f32⟩
  | .local _ .vmem, ⟨2, _⟩ => ⟨S1024x256, .bf16⟩
  | .local _ .vmem, ⟨3, _⟩ => ⟨S1024x256, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemKvRefIdeal.lean ====
abbrev S16x256x1024 : Shape := ⟨3, ![16, 256, 1024]⟩
abbrev S1x1024x256 : Shape := ⟨3, ![1, 1024, 256]⟩
abbrev S1024x256 : Shape := ⟨2, ![1024, 256]⟩
abbrev S16x256x256 : Shape := ⟨3, ![16, 256, 256]⟩

abbrev nBuf : Space → Nat
  | .hbm => 7
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024x256, .f32⟩
  | .hbm, ⟨2, _⟩ => ⟨S1x1024x256, .f32⟩
  | .hbm, ⟨3, _⟩ => ⟨S1024x256, .f32⟩
  | .hbm, ⟨4, _⟩ => ⟨S16x256x256, .f32⟩
  | .hbm, ⟨5, _⟩ => ⟨S1024x256, .f32⟩
  | .hbm, ⟨6, _⟩ => ⟨S16x256x256, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProj.lean ====
abbrev S16x2048x1024 : Shape := ⟨3, ![16, 2048, 1024]⟩
abbrev S1x1024x6216 : Shape := ⟨3, ![1, 1024, 6216]⟩
abbrev S1x3x256 : Shape := ⟨3, ![1, 3, 256]⟩
abbrev S16x256x256 : Shape := ⟨3, ![16, 256, 256]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S32x2048 : Shape := ⟨2, ![32, 2048]⟩
abbrev S1024x6216 : Shape := ⟨2, ![1024, 6216]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1024x3072 : Shape := ⟨2, ![1024, 3072]⟩
abbrev S1024x1664 : Shape := ⟨2, ![1024, 1664]⟩
abbrev S1024x2128 : Shape := ⟨2, ![1024, 2128]⟩
abbrev S2128x1024 : Shape := ⟨2, ![2128, 1024]⟩
abbrev S3x256 : Shape := ⟨2, ![3, 256]⟩
abbrev S16x2048x256 : Shape := ⟨3, ![16, 2048, 256]⟩
abbrev S16x8x64x2048 : Shape := ⟨4, ![16, 8, 64, 2048]⟩
abbrev S16x8x2048 : Shape := ⟨3, ![16, 8, 2048]⟩
abbrev S16x8x2048x64 : Shape := ⟨4, ![16, 8, 2048, 64]⟩
abbrev S16x8x8x64x256 : Shape := ⟨5, ![16, 8, 8, 64, 256]⟩
abbrev S16x64x2048 : Shape := ⟨3, ![16, 64, 2048]⟩
abbrev S16x2048x64 : Shape := ⟨3, ![16, 2048, 64]⟩
abbrev S16x2x256 : Shape := ⟨3, ![16, 2, 256]⟩
abbrev S1x512x1024 : Shape := ⟨3, ![1, 512, 1024]⟩
abbrev S512x128 : Shape := ⟨2, ![512, 128]⟩
abbrev S32x512 : Shape := ⟨2, ![32, 512]⟩
abbrev S1x256x256 : Shape := ⟨3, ![1, 256, 256]⟩
abbrev S1x512x256 : Shape := ⟨3, ![1, 512, 256]⟩
abbrev S1x8x64x512 : Shape := ⟨4, ![1, 8, 64, 512]⟩
abbrev S1x8x512 : Shape := ⟨3, ![1, 8, 512]⟩
abbrev S1x8x512x64 : Shape := ⟨4, ![1, 8, 512, 64]⟩
abbrev S1x8x2x64x256 : Shape := ⟨5, ![1, 8, 2, 64, 256]⟩
abbrev S1x64x512 : Shape := ⟨3, ![1, 64, 512]⟩
abbrev S1x512x64 : Shape := ⟨3, ![1, 512, 64]⟩
abbrev S1x2x256 : Shape := ⟨3, ![1, 2, 256]⟩
abbrev S8x256 : Shape := ⟨2, ![8, 256]⟩
abbrev S512x1024 : Shape := ⟨2, ![512, 1024]⟩
abbrev S1024x768 : Shape := ⟨2, ![1024, 768]⟩
abbrev S512x768 : Shape := ⟨2, ![512, 768]⟩
abbrev S512x256 : Shape := ⟨2, ![512, 256]⟩
abbrev S1x256 : Shape := ⟨2, ![1, 256]⟩
abbrev S2x256 : Shape := ⟨2, ![2, 256]⟩
abbrev S512x512 : Shape := ⟨2, ![512, 512]⟩
abbrev S512x64 : Shape := ⟨2, ![512, 64]⟩
abbrev S1x1x512x64 : Shape := ⟨4, ![1, 1, 512, 64]⟩
abbrev S1024x128 : Shape := ⟨2, ![1024, 128]⟩
abbrev S64x512 : Shape := ⟨2, ![64, 512]⟩
abbrev S1x1x32x512 : Shape := ⟨4, ![1, 1, 32, 512]⟩
abbrev S1x1x64x512 : Shape := ⟨4, ![1, 1, 64, 512]⟩
abbrev S64x256 : Shape := ⟨2, ![64, 256]⟩
abbrev S1x1x1x64x256 : Shape := ⟨5, ![1, 1, 1, 64, 256]⟩
abbrev S64x1024 : Shape := ⟨2, ![64, 1024]⟩
abbrev S1x32x512 : Shape := ⟨3, ![1, 32, 512]⟩
abbrev S16x1024 : Shape := ⟨2, ![16, 1024]⟩
abbrev S16x512 : Shape := ⟨2, ![16, 512]⟩
abbrev S8x512 : Shape := ⟨2, ![8, 512]⟩
abbrev S256x256 : Shape := ⟨2, ![256, 256]⟩
abbrev S256x64 : Shape := ⟨2, ![256, 64]⟩
abbrev S512 : Shape := ⟨1, ![512]⟩
abbrev S512x1 : Shape := ⟨2, ![512, 1]⟩
abbrev S16x2048x8x64 : Shape := ⟨4, ![16, 2048, 8, 64]⟩

abbrev nBuf : Space → Nat
  | .hbm => 74
  | .vmem => 42
  | .smem => 0
  | _ => 0

abbrev bufTy : (tb : Table) → Fin (tcTables nBuf tb) → BufTy
  | .hbm, ⟨0, _⟩ => ⟨S16x2048x1024, .f32⟩
  | .hbm, ⟨1, _⟩ => ⟨S1x1024x6216, .f32⟩
  | .hbm, ⟨2, _⟩ => ⟨S1x3x256, .f32⟩
  | .hbm, ⟨3, _⟩ => ⟨S16x256x256, .f32⟩
  | .hbm, ⟨4, _⟩ => ⟨S16x256x256, .f32⟩
  | .hbm, ⟨5, _⟩ => ⟨S2048, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S2048, .f32⟩
  | .hbm, ⟨15, _⟩ => ⟨S2048x1, .f32⟩
  | .hbm, ⟨16, _⟩ => ⟨S1x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x128, .f32⟩
  | .hbm, ⟨23, _⟩ => ⟨S2048x32, .f32⟩
  | .hbm, ⟨24, _⟩ => ⟨S2048x128, .f32⟩
  | .hbm, ⟨25, _⟩ => ⟨S32x2048, .f32⟩
  | .hbm, ⟨26, _⟩ => ⟨S32x2048, .f32⟩
  | .hbm, ⟨27, _⟩ => ⟨S1024x6216, .f32⟩
  | .hbm, ⟨28, _⟩ => ⟨S1024x256, .f32⟩
  | .hbm, ⟨29, _⟩ => ⟨S1024x6216, .f32⟩
  | .hbm, ⟨30, _⟩ => ⟨S1024x256, .f32⟩
  | .hbm, ⟨31, _⟩ => ⟨S1024x6216, .f32⟩
  | .hbm, ⟨32, _⟩ => ⟨S1024x256, .f32⟩
  | .hbm, ⟨33, _⟩ => ⟨S1024x6216, .f32⟩
  | .hbm, ⟨34, _⟩ => ⟨S1024x512, .f32⟩
  | .hbm, ⟨35, _⟩ => ⟨S1024x6216, .f32⟩
  | .hbm, ⟨36, _⟩ => ⟨S1024x512, .f32⟩
  | .hbm, ⟨37, _⟩ => ⟨S1024x6216, .f32⟩
  | .hbm, ⟨38, _⟩ => ⟨S1024x512, .f32⟩
  | .hbm, ⟨39, _⟩ => ⟨S1024x6216, .f32⟩
  | .hbm, ⟨40, _⟩ => ⟨S1024x512, .f32⟩
  | .hbm, ⟨41, _⟩ => ⟨S1024x6216, .f32⟩
  | .hbm, ⟨42, _⟩ => ⟨S1024x64, .f32⟩
  | .hbm, ⟨43, _⟩ => ⟨S1024x6216, .f32⟩
  | .hbm, ⟨44, _⟩ => ⟨S1024x8, .f32⟩
  | .hbm, ⟨45, _⟩ => ⟨S1024x6216, .f32⟩
  | .hbm, ⟨46, _⟩ => ⟨S1024x256, .f32⟩
  | .hbm, ⟨47, _⟩ => ⟨S1024x6216, .f32⟩
  | .hbm, ⟨48, _⟩ => ⟨S1024x3072, .f32⟩
  | .hbm, ⟨49, _⟩ => ⟨S_, .f32⟩
  | .hbm, ⟨50, _⟩ => ⟨S1024x64, .f32⟩
  | .hbm, ⟨51, _⟩ => ⟨S1024x1664, .f32⟩
  | .hbm, ⟨52, _⟩ => ⟨S1024x1664, .bf16⟩
  | .hbm, ⟨53, _⟩ => ⟨S_, .f32⟩
  | .hbm, ⟨54, _⟩ => ⟨S1024x8, .f32⟩
  | .hbm, ⟨55, _⟩ => ⟨S1024x2128, .f32⟩
  | .hbm, ⟨56, _⟩ => ⟨S2128x1024, .f32⟩
  | .hbm, ⟨57, _⟩ => ⟨S2128x1024, .bf16⟩
  | .hbm, ⟨58, _⟩ => ⟨S3x256, .f32⟩
  | .hbm, ⟨59, _⟩ => ⟨S16x2048x256, .bf16⟩
  | .hbm, ⟨60, _⟩ => ⟨S16x2048x256, .bf16⟩
  | .hbm, ⟨61, _⟩ => ⟨S16x8x64x2048, .bf16⟩
  | .hbm, ⟨62, _⟩ => ⟨S16x8x64x2048, .bf16⟩
  | .hbm, ⟨63, _⟩ => ⟨S16x8x2048, .f32⟩
  | .hbm, ⟨64, _⟩ => ⟨S16x8x64x2048, .f32⟩
  | .hbm, ⟨65, _⟩ => ⟨S16x8x64x2048, .f32⟩
  | .hbm, ⟨66, _⟩ => ⟨S16x8x2048x64, .bf16⟩
  | .hbm, ⟨67, _⟩ => ⟨S16x8x8x64x256, .bf16⟩
  | .hbm, ⟨68, _⟩ => ⟨S16x64x2048, .f32⟩
  | .hbm, ⟨69, _⟩ => ⟨S16x2048x64, .bf16⟩
  | .hbm, ⟨70, _⟩ => ⟨S16x2x256, .f32⟩
  | .hbm, ⟨71, _⟩ => ⟨S16x2048x8x64, .f32⟩
  | .hbm, ⟨72, _⟩ => ⟨S16x2048x8x64, .f32⟩
  | .hbm, ⟨73, _⟩ => ⟨S16x2048x64, .f32⟩
  | .local _ .vmem, ⟨0, _⟩ => ⟨S1x512x1024, .f32⟩
  | .local _ .vmem, ⟨1, _⟩ => ⟨S1x512x1024, .f32⟩
  | .local _ .vmem, ⟨2, _⟩ => ⟨S1024x1664, .bf16⟩
  | .local _ .vmem, ⟨3, _⟩ => ⟨S2128x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S3x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x512x256, .bf16⟩
  | .local _ .vmem, ⟨18, _⟩ => ⟨S1x512x256, .bf16⟩
  | .local _ .vmem, ⟨19, _⟩ => ⟨S1x512x256, .bf16⟩
  | .local _ .vmem, ⟨20, _⟩ => ⟨S1x512x256, .bf16⟩
  | .local _ .vmem, ⟨21, _⟩ => ⟨S1x8x64x512, .bf16⟩
  | .local _ .vmem, ⟨22, _⟩ => ⟨S1x8x64x512, .bf16⟩
  | .local _ .vmem, ⟨23, _⟩ => ⟨S1x8x64x512, .bf16⟩
  | .local _ .vmem, ⟨24, _⟩ => ⟨S1x8x64x512, .bf16⟩
  | .local _ .vmem, ⟨25, _⟩ => ⟨S1x8x512, .f32⟩
  | .local _ .vmem, ⟨26, _⟩ => ⟨S1x8x512, .f32⟩
  | .local _ .vmem, ⟨27, _⟩ => ⟨S1x8x64x512, .f32⟩
  | .local _ .vmem, ⟨28, _⟩ => ⟨S1x8x64x512, .f32⟩
  | .local _ .vmem, ⟨29, _⟩ => ⟨S1x8x64x512, .f32⟩
  | .local _ .vmem, ⟨30, _⟩ => ⟨S1x8x64x512, .f32⟩
  | .local _ .vmem, ⟨31, _⟩ => ⟨S1x8x512x64, .bf16⟩
  | .local _ .vmem, ⟨32, _⟩ => ⟨S1x8x512x64, .bf16⟩
  | .local _ .vmem, ⟨33, _⟩ => ⟨S1x8x2x64x256, .bf16⟩
  | .local _ .vmem, ⟨34, _⟩ => ⟨S1x8x2x64x256, .bf16⟩
  | .local _ .vmem, ⟨35, _⟩ => ⟨S1x64x512, .f32⟩
  | .local _ .vmem, ⟨36, _⟩ => ⟨S1x64x512, .f32⟩
  | .local _ .vmem, ⟨37, _⟩ => ⟨S1x512x64, .bf16⟩
  | .local _ .vmem, ⟨38, _⟩ => ⟨S1x512x64, .bf16⟩
  | .local _ .vmem, ⟨39, _⟩ => ⟨S1x2x256, .f32⟩
  | .local _ .vmem, ⟨40, _⟩ => ⟨S1x2x256, .f32⟩
  | .local _ .vmem, ⟨41, _⟩ => ⟨S8x256, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_1 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_2 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50_0 : Ref sig .tc := ⟨.hbm, 59, rfl⟩
abbrev main_v50_1 : Ref sig .tc := ⟨.hbm, 60, rfl⟩
abbrev main_v50_2 : Ref sig .tc := ⟨.hbm, 61, rfl⟩
abbrev main_v50_3 : Ref sig .tc := ⟨.hbm, 62, rfl⟩
abbrev main_v50_4 : Ref sig .tc := ⟨.hbm, 63, rfl⟩
abbrev main_v50_5 : Ref sig .tc := ⟨.hbm, 64, rfl⟩
abbrev main_v50_6 : Ref sig .tc := ⟨.hbm, 65, rfl⟩
abbrev main_v50_7 : Ref sig .tc := ⟨.hbm, 66, rfl⟩
abbrev main_v50_8 : Ref sig .tc := ⟨.hbm, 67, rfl⟩
abbrev main_v50_9 : Ref sig .tc := ⟨.hbm, 68, rfl⟩
abbrev main_v50_10 : Ref sig .tc := ⟨.hbm, 69, rfl⟩
abbrev main_v50_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x64x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x64x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x512x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x2x64x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x64x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x64 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x2x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== InProjRefIdeal.lean ====
abbrev S16x2048x1024 : Shape := ⟨3, ![16, 2048, 1024]⟩
abbrev S1x1024x6216 : Shape := ⟨3, ![1, 1024, 6216]⟩
abbrev S1x3x256 : Shape := ⟨3, ![1, 3, 256]⟩
abbrev S16x256x256 : Shape := ⟨3, ![16, 256, 256]⟩
abbrev S2048 : Shape := ⟨1, ![2048]⟩
abbrev S1024x6216 : Shape := ⟨2, ![1024, 6216]⟩
abbrev S16x2048x6216 : Shape := ⟨3, ![16, 2048, 6216]⟩
abbrev S16x2048x512 : Shape := ⟨3, ![16, 2048, 512]⟩
abbrev S16x2048x8x64 : Shape := ⟨4, ![16, 2048, 8, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S16x2048x8x32 : Shape := ⟨4, ![16, 2048, 8, 32]⟩
abbrev S1x2048x1x32 : Shape := ⟨4, ![1, 2048, 1, 32]⟩
abbrev S16x2048x64 : Shape := ⟨3, ![16, 2048, 64]⟩
abbrev S16x2048x1x64 : Shape := ⟨4, ![16, 2048, 1, 64]⟩
abbrev S16x2048x1x32 : Shape := ⟨4, ![16, 2048, 1, 32]⟩
abbrev S16x2048x256 : Shape := ⟨3, ![16, 2048, 256]⟩
abbrev S16x2x256 : Shape := ⟨3, ![16, 2, 256]⟩
abbrev S16x2050x256 : Shape := ⟨3, ![16, 2050, 256]⟩

abbrev nBuf : Space → Nat
  | .hbm => 92
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024x6216, .f32⟩
  | .hbm, ⟨2, _⟩ => ⟨S1x3x256, .f32⟩
  | .hbm, ⟨3, _⟩ => ⟨S16x256x256, .f32⟩
  | .hbm, ⟨4, _⟩ => ⟨S16x256x256, .f32⟩
  | .hbm, ⟨5, _⟩ => ⟨S2048, .i32⟩
  | .hbm, ⟨6, _⟩ => ⟨S1024x6216, .f32⟩
  | .hbm, ⟨7, _⟩ => ⟨S16x2048x6216, .f32⟩
  | .hbm, ⟨8, _⟩ => ⟨S16x2048x512, .f32⟩
  | .hbm, ⟨9, _⟩ => ⟨S16x2048x8x64, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x1x32, .f32⟩
  | .hbm, ⟨26, _⟩ => ⟨S2048x32, .f32⟩
  | .hbm, ⟨27, _⟩ => ⟨S2048x1x32, .f32⟩
  | .hbm, ⟨28, _⟩ => ⟨S16x2048x8x32, .f32⟩
  | .hbm, ⟨29, _⟩ => ⟨S16x2048x8x32, .f32⟩
  | .hbm, ⟨30, _⟩ => ⟨S1x2048x1x32, .f32⟩
  | .hbm, ⟨31, _⟩ => ⟨S16x2048x8x32, .f32⟩
  | .hbm, ⟨32, _⟩ => ⟨S16x2048x8x32, .f32⟩
  | .hbm, ⟨33, _⟩ => ⟨S1x2048x1x32, .f32⟩
  | .hbm, ⟨34, _⟩ => ⟨S16x2048x8x32, .f32⟩
  | .hbm, ⟨35, _⟩ => ⟨S16x2048x8x32, .f32⟩
  | .hbm, ⟨36, _⟩ => ⟨S16x2048x8x32, .f32⟩
  | .hbm, ⟨37, _⟩ => ⟨S1x2048x1x32, .f32⟩
  | .hbm, ⟨38, _⟩ => ⟨S16x2048x8x32, .f32⟩
  | .hbm, ⟨39, _⟩ => ⟨S16x2048x8x32, .f32⟩
  | .hbm, ⟨40, _⟩ => ⟨S1x2048x1x32, .f32⟩
  | .hbm, ⟨41, _⟩ => ⟨S16x2048x8x32, .f32⟩
  | .hbm, ⟨42, _⟩ => ⟨S16x2048x8x32, .f32⟩
  | .hbm, ⟨43, _⟩ => ⟨S16x2048x8x32, .f32⟩
  | .hbm, ⟨44, _⟩ => ⟨S16x2048x8x64, .f32⟩
  | .hbm, ⟨45, _⟩ => ⟨S16x2048x512, .f32⟩
  | .hbm, ⟨46, _⟩ => ⟨S16x2048x8x64, .f32⟩
  | .hbm, ⟨47, _⟩ => ⟨S16x2048x64, .f32⟩
  | .hbm, ⟨48, _⟩ => ⟨S16x2048x1x64, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S2048, .f32⟩
  | .hbm, ⟨58, _⟩ => ⟨S2048x1, .f32⟩
  | .hbm, ⟨59, _⟩ => ⟨S1x32, .f32⟩
  | .hbm, ⟨60, _⟩ => ⟨S2048x32, .f32⟩
  | .hbm, ⟨61, _⟩ => ⟨S2048x32, .f32⟩
  | .hbm, ⟨62, _⟩ => ⟨S2048x32, .f32⟩
  | .hbm, ⟨63, _⟩ => ⟨S2048x32, .f32⟩
  | .hbm, ⟨64, _⟩ => ⟨S2048x1x32, .f32⟩
  | .hbm, ⟨65, _⟩ => ⟨S2048x32, .f32⟩
  | .hbm, ⟨66, _⟩ => ⟨S2048x1x32, .f32⟩
  | .hbm, ⟨67, _⟩ => ⟨S16x2048x1x32, .f32⟩
  | .hbm, ⟨68, _⟩ => ⟨S16x2048x1x32, .f32⟩
  | .hbm, ⟨69, _⟩ => ⟨S1x2048x1x32, .f32⟩
  | .hbm, ⟨70, _⟩ => ⟨S16x2048x1x32, .f32⟩
  | .hbm, ⟨71, _⟩ => ⟨S16x2048x1x32, .f32⟩
  | .hbm, ⟨72, _⟩ => ⟨S1x2048x1x32, .f32⟩
  | .hbm, ⟨73, _⟩ => ⟨S16x2048x1x32, .f32⟩
  | .hbm, ⟨74, _⟩ => ⟨S16x2048x1x32, .f32⟩
  | .hbm, ⟨75, _⟩ => ⟨S16x2048x1x32, .f32⟩
  | .hbm, ⟨76, _⟩ => ⟨S1x2048x1x32, .f32⟩
  | .hbm, ⟨77, _⟩ => ⟨S16x2048x1x32, .f32⟩
  | .hbm, ⟨78, _⟩ => ⟨S16x2048x1x32, .f32⟩
  | .hbm, ⟨79, _⟩ => ⟨S1x2048x1x32, .f32⟩
  | .hbm, ⟨80, _⟩ => ⟨S16x2048x1x32, .f32⟩
  | .hbm, ⟨81, _⟩ => ⟨S16x2048x1x32, .f32⟩
  | .hbm, ⟨82, _⟩ => ⟨S16x2048x1x32, .f32⟩
  | .hbm, ⟨83, _⟩ => ⟨S16x2048x1x64, .f32⟩
  | .hbm, ⟨84, _⟩ => ⟨S16x2048x64, .f32⟩
  | .hbm, ⟨85, _⟩ => ⟨S16x2048x256, .f32⟩
  | .hbm, ⟨86, _⟩ => ⟨S16x2048x256, .f32⟩
  | .hbm, ⟨87, _⟩ => ⟨S_, .f32⟩
  | .hbm, ⟨88, _⟩ => ⟨S16x2x256, .f32⟩
  | .hbm, ⟨89, _⟩ => ⟨S16x2048x256, .f32⟩
  | .hbm, ⟨90, _⟩ => ⟨S16x2050x256, .f32⟩
  | .hbm, ⟨91, _⟩ => ⟨S16x2x256, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_1 : Ref sig .tc := ⟨.hbm, 51, rfl⟩
abbrev main_v44 : Ref sig .tc := ⟨.hbm, 52, rfl⟩
abbrev main_v45 : Ref sig .tc := ⟨.hbm, 53, rfl⟩
abbrev main_cst_2 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_cst_3 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩

abbrev nD : Nat := 1
abbrev τ : Topo := Topo.v7x

variable {F : FTy → Type} [FloatOps F]
-- ==== SampleInProj.lean ====
abbrev S32x1x1024 : Shape := ⟨3, ![32, 1, 1024]⟩
abbrev S1x1024x6216 : Shape := ⟨3, ![1, 1024, 6216]⟩
abbrev S1x3x256 : Shape := ⟨3, ![1, 3, 256]⟩
abbrev S1x32x2x256 : Shape := ⟨4, ![1, 32, 2, 256]⟩
abbrev S1 : Shape := ⟨1, ![1]⟩
abbrev S_ : Shape := ⟨0, ![]⟩
abbrev S32 : Shape := ⟨1, ![32]⟩
abbrev S1x1 : Shape := ⟨2, ![1, 1]⟩
abbrev S1x32 : Shape := ⟨2, ![1, 32]⟩
abbrev S1x128 : Shape := ⟨2, ![1, 128]⟩
abbrev S32x1 : Shape := ⟨2, ![32, 1]⟩
abbrev S1024x6216 : Shape := ⟨2, ![1024, 6216]⟩
abbrev S1024x256 : Shape := ⟨2, ![1024, 256]⟩
abbrev S1024x512 : Shape := ⟨2, ![1024, 512]⟩
abbrev S1024x64 : Shape := ⟨2, ![1024, 64]⟩
abbrev S1024x8 : Shape := ⟨2, ![1024, 8]⟩
abbrev S1024x3072 : Shape := ⟨2, ![1024, 3072]⟩
abbrev S1024x1664 : Shape := ⟨2, ![1024, 1664]⟩
abbrev S1024x2128 : Shape := ⟨2, ![1024, 2128]⟩
abbrev S2128x1024 : Shape := ⟨2, ![2128, 1024]⟩
abbrev S32x2x256 : Shape := ⟨3, ![32, 2, 256]⟩
abbrev S32x1024 : Shape := ⟨2, ![32, 1024]⟩
abbrev S3x256 : Shape := ⟨2, ![3, 256]⟩
abbrev S32x1x256 : Shape := ⟨3, ![32, 1, 256]⟩
abbrev S32x256 : Shape := ⟨2, ![32, 256]⟩
abbrev S32x512 : Shape := ⟨2, ![32, 512]⟩
abbrev S32x64 : Shape := ⟨2, ![32, 64]⟩
abbrev S32x8 : Shape := ⟨2, ![32, 8]⟩
abbrev S1024x768 : Shape := ⟨2, ![1024, 768]⟩
abbrev S32x768 : Shape := ⟨2, ![32, 768]⟩
abbrev S1x256 : Shape := ⟨2, ![1, 256]⟩
abbrev S512x1024 : Shape := ⟨2, ![512, 1024]⟩
abbrev S1x512 : Shape := ⟨2, ![1, 512]⟩
abbrev S1024x128 : Shape := ⟨2, ![1024, 128]⟩
abbrev S32x128 : Shape := ⟨2, ![32, 128]⟩
abbrev S16x1024 : Shape := ⟨2, ![16, 1024]⟩
abbrev S32x16 : Shape := ⟨2, ![32, 16]⟩
abbrev S32x1x8x64 : Shape := ⟨4, ![32, 1, 8, 64]⟩
abbrev S32x1x64 : Shape := ⟨3, ![32, 1, 64]⟩

abbrev nBuf : Space → Nat
  | .hbm => 83
  | .vmem => 17
  | .smem => 0
  | _ => 0

abbrev bufTy : (tb : Table) → Fin (tcTables nBuf tb) → BufTy
  | .hbm, ⟨0, _⟩ => ⟨S32x1x1024, .f32⟩
  | .hbm, ⟨1, _⟩ => ⟨S1x1024x6216, .f32⟩
  | .hbm, ⟨2, _⟩ => ⟨S1x3x256, .f32⟩
  | .hbm, ⟨3, _⟩ => ⟨S1x32x2x256, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S1, .f32⟩
  | .hbm, ⟨17, _⟩ => ⟨S1x1, .f32⟩
  | .hbm, ⟨18, _⟩ => ⟨S1x32, .f32⟩
  | .hbm, ⟨19, _⟩ => ⟨S1x32, .f32⟩
  | .hbm, ⟨20, _⟩ => ⟨S1x32, .f32⟩
  | .hbm, ⟨21, _⟩ => ⟨S1x32, .f32⟩
  | .hbm, ⟨22, _⟩ => ⟨S1x32, .f32⟩
  | .hbm, ⟨23, _⟩ => ⟨S1x128, .f32⟩
  | .hbm, ⟨24, _⟩ => ⟨S1x32, .f32⟩
  | .hbm, ⟨25, _⟩ => ⟨S1x128, .f32⟩
  | .hbm, ⟨26, _⟩ => ⟨S32x1, .f32⟩
  | .hbm, ⟨27, _⟩ => ⟨S32x1, .f32⟩
  | .hbm, ⟨28, _⟩ => ⟨S1024x6216, .f32⟩
  | .hbm, ⟨29, _⟩ => ⟨S1024x256, .f32⟩
  | .hbm, ⟨30, _⟩ => ⟨S1024x6216, .f32⟩
  | .hbm, ⟨31, _⟩ => ⟨S1024x256, .f32⟩
  | .hbm, ⟨32, _⟩ => ⟨S1024x6216, .f32⟩
  | .hbm, ⟨33, _⟩ => ⟨S1024x256, .f32⟩
  | .hbm, ⟨34, _⟩ => ⟨S1024x6216, .f32⟩
  | .hbm, ⟨35, _⟩ => ⟨S1024x512, .f32⟩
  | .hbm, ⟨36, _⟩ => ⟨S1024x6216, .f32⟩
  | .hbm, ⟨37, _⟩ => ⟨S1024x512, .f32⟩
  | .hbm, ⟨38, _⟩ => ⟨S1024x6216, .f32⟩
  | .hbm, ⟨39, _⟩ => ⟨S1024x512, .f32⟩
  | .hbm, ⟨40, _⟩ => ⟨S1024x6216, .f32⟩
  | .hbm, ⟨41, _⟩ => ⟨S1024x512, .f32⟩
  | .hbm, ⟨42, _⟩ => ⟨S1024x6216, .f32⟩
  | .hbm, ⟨43, _⟩ => ⟨S1024x64, .f32⟩
  | .hbm, ⟨44, _⟩ => ⟨S1024x6216, .f32⟩
  | .hbm, ⟨45, _⟩ => ⟨S1024x8, .f32⟩
  | .hbm, ⟨46, _⟩ => ⟨S1024x6216, .f32⟩
  | .hbm, ⟨47, _⟩ => ⟨S1024x256, .f32⟩
  | .hbm, ⟨48, _⟩ => ⟨S1024x6216, .f32⟩
  | .hbm, ⟨49, _⟩ => ⟨S1024x3072, .f32⟩
  | .hbm, ⟨50, _⟩ => ⟨S_, .f32⟩
  | .hbm, ⟨51, _⟩ => ⟨S1024x64, .f32⟩
  | .hbm, ⟨52, _⟩ => ⟨S1024x1664, .f32⟩
  | .hbm, ⟨53, _⟩ => ⟨S1024x1664, .bf16⟩
  | .hbm, ⟨54, _⟩ => ⟨S_, .f32⟩
  | .hbm, ⟨55, _⟩ => ⟨S1024x8, .f32⟩
  | .hbm, ⟨56, _⟩ => ⟨S1024x2128, .f32⟩
  | .hbm, ⟨57, _⟩ => ⟨S2128x1024, .f32⟩
  | .hbm, ⟨58, _⟩ => ⟨S2128x1024, .bf16⟩
  | .hbm, ⟨59, _⟩ => ⟨S32x2x256, .f32⟩
  | .hbm, ⟨60, _⟩ => ⟨S32x1024, .f32⟩
  | .hbm, ⟨61, _⟩ => ⟨S3x256, .f32⟩
  | .hbm, ⟨62, _⟩ => ⟨S32x1x256, .f32⟩
  | .hbm, ⟨63, _⟩ => ⟨S32x256, .f32⟩
  | .hbm, ⟨64, _⟩ => ⟨S32x1x256, .f32⟩
  | .hbm, ⟨65, _⟩ => ⟨S32x256, .f32⟩
  | .hbm, ⟨66, _⟩ => ⟨S32x256, .bf16⟩
  | .hbm, ⟨67, _⟩ => ⟨S32x256, .f32⟩
  | .hbm, ⟨68, _⟩ => ⟨S32x512, .f32⟩
  | .hbm, ⟨69, _⟩ => ⟨S32x512, .f32⟩
  | .hbm, ⟨70, _⟩ => ⟨S32x512, .f32⟩
  | .hbm, ⟨71, _⟩ => ⟨S32x512, .f32⟩
  | .hbm, ⟨72, _⟩ => ⟨S32x64, .f32⟩
  | .hbm, ⟨73, _⟩ => ⟨S32x8, .f32⟩
  | .hbm, ⟨74, _⟩ => ⟨S32x256, .f32⟩
  | .hbm, ⟨75, _⟩ => ⟨S32x1x8x64, .f32⟩
  | .hbm, ⟨76, _⟩ => ⟨S32x1x8x64, .f32⟩
  | .hbm, ⟨77, _⟩ => ⟨S32x1x64, .f32⟩
  | .hbm, ⟨78, _⟩ => ⟨S32x1x256, .f32⟩
  | .hbm, ⟨79, _⟩ => ⟨S32x256, .f32⟩
  | .hbm, ⟨80, _⟩ => ⟨S32x1x256, .f32⟩
  | .hbm, ⟨81, _⟩ => ⟨S32x1x256, .f32⟩
  | .hbm, ⟨82, _⟩ => ⟨S32x2x256, .f32⟩
  | .local _ .vmem, ⟨0, _⟩ => ⟨S32x1024, .f32⟩
  | .local _ .vmem, ⟨1, _⟩ => ⟨S1024x1664, .bf16⟩
  | .local _ .vmem, ⟨2, _⟩ => ⟨S2128x1024, .bf16⟩
  | .local _ .vmem, ⟨3, _⟩ => ⟨S1x128, .f32⟩
  | .local _ .vmem, ⟨4, _⟩ => ⟨S1x128, .f32⟩
  | .local _ .vmem, ⟨5, _⟩ => ⟨S3x256, .f32⟩
  | .local _ .vmem, ⟨6, _⟩ => ⟨S32x256, .f32⟩
  | .local _ .vmem, ⟨7, _⟩ => ⟨S32x256, .f32⟩
  | .local _ .vmem, ⟨8, _⟩ => ⟨S32x256, .bf16⟩
  | .local _ .vmem, ⟨9, _⟩ => ⟨S32x256, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x64, .f32⟩
  | .local _ .vmem, ⟨15, _⟩ => ⟨S32x8, .f32⟩
  | .local _ .vmem, ⟨16, _⟩ => ⟨S32x256, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_cst_1 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_2 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57_0 : Ref sig .tc := ⟨.hbm, 66, rfl⟩
abbrev main_v57_1 : Ref sig .tc := ⟨.hbm, 67, rfl⟩
abbrev main_v57_2 : Ref sig .tc := ⟨.hbm, 68, rfl⟩
abbrev main_v57_3 : Ref sig .tc := ⟨.hbm, 69, rfl⟩
abbrev main_v57_4 : Ref sig .tc := ⟨.hbm, 70, rfl⟩
abbrev main_v57_5 : Ref sig .tc := ⟨.hbm, 71, rfl⟩
abbrev main_v57_6 : Ref sig .tc := ⟨.hbm, 72, rfl⟩
abbrev main_v57_7 : Ref sig .tc := ⟨.hbm, 73, rfl⟩
abbrev main_v57_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== SampleInProjRefIdeal.lean ====
abbrev S32x1x1024 : Shape := ⟨3, ![32, 1, 1024]⟩
abbrev S1x1024x6216 : Shape := ⟨3, ![1, 1024, 6216]⟩
abbrev S1x3x256 : Shape := ⟨3, ![1, 3, 256]⟩
abbrev S1x32x2x256 : Shape := ⟨4, ![1, 32, 2, 256]⟩
abbrev S1 : Shape := ⟨1, ![1]⟩
abbrev S_ : Shape := ⟨0, ![]⟩
abbrev S1024x6216 : Shape := ⟨2, ![1024, 6216]⟩
abbrev S32x1x6216 : Shape := ⟨3, ![32, 1, 6216]⟩
abbrev S32x1x512 : Shape := ⟨3, ![32, 1, 512]⟩
abbrev S32x1x8x64 : Shape := ⟨4, ![32, 1, 8, 64]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S32x1x8x32 : Shape := ⟨4, ![32, 1, 8, 32]⟩
abbrev S1x1x1x32 : Shape := ⟨4, ![1, 1, 1, 32]⟩
abbrev S32x1x64 : Shape := ⟨3, ![32, 1, 64]⟩
abbrev S32x1x1x64 : Shape := ⟨4, ![32, 1, 1, 64]⟩
abbrev S32x1x1x32 : Shape := ⟨4, ![32, 1, 1, 32]⟩
abbrev S32x1x256 : Shape := ⟨3, ![32, 1, 256]⟩
abbrev S32x2x256 : Shape := ⟨3, ![32, 2, 256]⟩
abbrev S32x3x256 : Shape := ⟨3, ![32, 3, 256]⟩

abbrev nBuf : Space → Nat
  | .hbm => 91
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024x6216, .f32⟩
  | .hbm, ⟨2, _⟩ => ⟨S1x3x256, .f32⟩
  | .hbm, ⟨3, _⟩ => ⟨S1x32x2x256, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S1024x6216, .f32⟩
  | .hbm, ⟨9, _⟩ => ⟨S32x1x6216, .f32⟩
  | .hbm, ⟨10, _⟩ => ⟨S32x1x512, .f32⟩
  | .hbm, ⟨11, _⟩ => ⟨S32x1x8x64, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S1, .f32⟩
  | .hbm, ⟨21, _⟩ => ⟨S1x1, .f32⟩
  | .hbm, ⟨22, _⟩ => ⟨S1x32, .f32⟩
  | .hbm, ⟨23, _⟩ => ⟨S1x32, .f32⟩
  | .hbm, ⟨24, _⟩ => ⟨S1x32, .f32⟩
  | .hbm, ⟨25, _⟩ => ⟨S1x32, .f32⟩
  | .hbm, ⟨26, _⟩ => ⟨S1x1x32, .f32⟩
  | .hbm, ⟨27, _⟩ => ⟨S1x32, .f32⟩
  | .hbm, ⟨28, _⟩ => ⟨S1x1x32, .f32⟩
  | .hbm, ⟨29, _⟩ => ⟨S32x1x8x32, .f32⟩
  | .hbm, ⟨30, _⟩ => ⟨S32x1x8x32, .f32⟩
  | .hbm, ⟨31, _⟩ => ⟨S1x1x1x32, .f32⟩
  | .hbm, ⟨32, _⟩ => ⟨S32x1x8x32, .f32⟩
  | .hbm, ⟨33, _⟩ => ⟨S32x1x8x32, .f32⟩
  | .hbm, ⟨34, _⟩ => ⟨S1x1x1x32, .f32⟩
  | .hbm, ⟨35, _⟩ => ⟨S32x1x8x32, .f32⟩
  | .hbm, ⟨36, _⟩ => ⟨S32x1x8x32, .f32⟩
  | .hbm, ⟨37, _⟩ => ⟨S32x1x8x32, .f32⟩
  | .hbm, ⟨38, _⟩ => ⟨S1x1x1x32, .f32⟩
  | .hbm, ⟨39, _⟩ => ⟨S32x1x8x32, .f32⟩
  | .hbm, ⟨40, _⟩ => ⟨S32x1x8x32, .f32⟩
  | .hbm, ⟨41, _⟩ => ⟨S1x1x1x32, .f32⟩
  | .hbm, ⟨42, _⟩ => ⟨S32x1x8x32, .f32⟩
  | .hbm, ⟨43, _⟩ => ⟨S32x1x8x32, .f32⟩
  | .hbm, ⟨44, _⟩ => ⟨S32x1x8x32, .f32⟩
  | .hbm, ⟨45, _⟩ => ⟨S32x1x8x64, .f32⟩
  | .hbm, ⟨46, _⟩ => ⟨S32x1x512, .f32⟩
  | .hbm, ⟨47, _⟩ => ⟨S32x1x8x64, .f32⟩
  | .hbm, ⟨48, _⟩ => ⟨S32x1x64, .f32⟩
  | .hbm, ⟨49, _⟩ => ⟨S32x1x1x64, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S1, .f32⟩
  | .hbm, ⟨59, _⟩ => ⟨S1x1, .f32⟩
  | .hbm, ⟨60, _⟩ => ⟨S1x32, .f32⟩
  | .hbm, ⟨61, _⟩ => ⟨S1x32, .f32⟩
  | .hbm, ⟨62, _⟩ => ⟨S1x32, .f32⟩
  | .hbm, ⟨63, _⟩ => ⟨S1x32, .f32⟩
  | .hbm, ⟨64, _⟩ => ⟨S1x1x32, .f32⟩
  | .hbm, ⟨65, _⟩ => ⟨S1x32, .f32⟩
  | .hbm, ⟨66, _⟩ => ⟨S1x1x32, .f32⟩
  | .hbm, ⟨67, _⟩ => ⟨S32x1x1x32, .f32⟩
  | .hbm, ⟨68, _⟩ => ⟨S32x1x1x32, .f32⟩
  | .hbm, ⟨69, _⟩ => ⟨S1x1x1x32, .f32⟩
  | .hbm, ⟨70, _⟩ => ⟨S32x1x1x32, .f32⟩
  | .hbm, ⟨71, _⟩ => ⟨S32x1x1x32, .f32⟩
  | .hbm, ⟨72, _⟩ => ⟨S1x1x1x32, .f32⟩
  | .hbm, ⟨73, _⟩ => ⟨S32x1x1x32, .f32⟩
  | .hbm, ⟨74, _⟩ => ⟨S32x1x1x32, .f32⟩
  | .hbm, ⟨75, _⟩ => ⟨S32x1x1x32, .f32⟩
  | .hbm, ⟨76, _⟩ => ⟨S1x1x1x32, .f32⟩
  | .hbm, ⟨77, _⟩ => ⟨S32x1x1x32, .f32⟩
  | .hbm, ⟨78, _⟩ => ⟨S32x1x1x32, .f32⟩
  | .hbm, ⟨79, _⟩ => ⟨S1x1x1x32, .f32⟩
  | .hbm, ⟨80, _⟩ => ⟨S32x1x1x32, .f32⟩
  | .hbm, ⟨81, _⟩ => ⟨S32x1x1x32, .f32⟩
  | .hbm, ⟨82, _⟩ => ⟨S32x1x1x32, .f32⟩
  | .hbm, ⟨83, _⟩ => ⟨S32x1x1x64, .f32⟩
  | .hbm, ⟨84, _⟩ => ⟨S32x1x64, .f32⟩
  | .hbm, ⟨85, _⟩ => ⟨S32x1x256, .f32⟩
  | .hbm, ⟨86, _⟩ => ⟨S32x1x256, .f32⟩
  | .hbm, ⟨87, _⟩ => ⟨S32x2x256, .f32⟩
  | .hbm, ⟨88, _⟩ => ⟨S32x1x256, .f32⟩
  | .hbm, ⟨89, _⟩ => ⟨S32x3x256, .f32⟩
  | .hbm, ⟨90, _⟩ => ⟨S32x2x256, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_1 : Ref sig .tc := ⟨.hbm, 52, rfl⟩
abbrev main_v45 : Ref sig .tc := ⟨.hbm, 53, rfl⟩
abbrev main_v46 : Ref sig .tc := ⟨.hbm, 54, rfl⟩
abbrev main_cst_2 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩

abbrev nD : Nat := 1
abbrev τ : Topo := Topo.v7x

variable {F : FTy → Type} [FloatOps F]
-- ==== Proof.MemKvValue.lean ====
/-
  The projection of the encoder memory to its keys and values: what the kernel leaves in its two results is the
  matrix product of the memory with each weight, as the reference takes it.
-/
module

public import proofs.«01_k».proof.Defs
public import proofs.«01_k».proof.Proof.Gen.MemKvIdeal.Value
public import proofs.«01_k».proof.Proof.Gen.MemKvRefIdeal.Run
public import proofs.«01_k».proof.Proof.Gen.MemKvRefIdeal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemKvIdeal.Product

open Cert.MemKvIdeal Cert.MemKvIdeal.Gen

variable (m : (ℓ : Loc nD τ sig) → Buf (Elt Ideal) ℓ)

/-- The product of the memory with one weight: entry `(b, i, j)` sums the memory's row `i` of sample `b` against the
    weight's column `j`. -/
def product (x : FVec Ideal S16x256x1024 .f32) (w : FVec Ideal S1x1024x256 .f32) : FVec Ideal S16x256x256 .f32 :=
  fun i => ∑ k : Fin 1024, x (ix3 (i 0) (i 1) k) * w (ix3 0 k (i 2))

/-- The grid's points walk the samples; the weights stay. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] :=
  (by decide +kernel : ∀ t : Fin grid0.N, _)

theorem weight1 (c : Dev nD) (i : S1024x256.Idx) :
    V m c main_v1 i = m ((c : Thread nD τ).loc main_arg1) (ix3 0 (i 0) (i 1)) := by
  entry_read
  pointwise

theorem weight2 (c : Dev nD) (i : S1024x256.Idx) :
    V m c main_v3 i = m ((c : Thread nD τ).loc main_arg2) (ix3 0 (i 0) (i 1)) := by
  entry_read
  pointwise

theorem keys (c : Dev nD) : (dats m 0 c).arrAt 3 cfg0.N
    = product (m ((c : Thread nD τ).loc main_arg0)) (m ((c : Thread nD τ).loc main_arg1)) := by
  refine (dats m 0 c).arrAt_eq_of_covers 3 _ (by decide +kernel) fun t _ y => ?_
  blk_simp
  rw [after0_3]; frame_out
  pointwise [k0_pay1, k0_pay2, product]
  blk_point [iblk, V, idx t]

theorem values (c : Dev nD) : (dats m 0 c).arrAt 4 cfg0.N
    = product (m ((c : Thread nD τ).loc main_arg0)) (m ((c : Thread nD τ).loc main_arg2)) := by
  refine (dats m 0 c).arrAt_eq_of_covers 4 _ (by decide +kernel) fun t _ y => ?_
  blk_simp
  rw [after0_4]; frame_out
  pointwise [k0_pay1, k0_pay3, product]
  blk_point [iblk, V, idx t]

end Cert.MemKvIdeal.Product

namespace Cert.MemKvRefIdeal.Product

open Cert.MemKvRefIdeal Cert.MemKvRefIdeal.Gen

theorem keys (x : FVec Ideal S16x256x1024 .f32) (w : FVec Ideal S1x1024x256 .f32) :
    Host.dotGeneral dot_S16x256x1024_S1024x256_S16x256x256_2_0_01_1_n_n none x (shapeCast _ w shapeCasts_S1x1024x256_S1024x256)
      = Cert.MemKvIdeal.Product.product x w := by
  funext i
  pointwise [Cert.MemKvIdeal.Product.product]

end Cert.MemKvRefIdeal.Product

namespace Cert.MemKvProof

/-- The reference leaves its arguments unchanged and ends with every counter at zero. -/
theorem frame_reference : Cert.quiescent_MemKvRefIdeal (hMemKvRefIdeal := Cert.MemKvRefIdeal.Gen.facts) := fun m ρ _ =>
  (θ_run _ _ _).mono (fun r h => ⟨fun c => (h c).2.2, sem_eq_zero_of_no_sems (by decide) _⟩)
    (Cert.MemKvRefIdeal.Value.run (F := Ideal) m ρ)

/-- Both programs end with the two products. -/
theorem same_results : Cert.algebraic_MemKvIdeal_MemKvRefIdeal (hMemKvIdeal := Cert.MemKvIdeal.Gen.facts)
    (hMemKvRefIdeal := Cert.MemKvRefIdeal.Gen.facts) := by
  intro m g m' g' _ hargs
  refine ⟨_, _, Cert.MemKvIdeal.Value.run_blocks (F := Ideal) m g, (θ_run _ _ _).mono (fun r h c => ?_)
    (Cert.MemKvRefIdeal.Value.run (F := Ideal) m' g')⟩
  obtain ⟨h1, h3, ha⟩ := h c
  obtain ⟨e0, e1, e2⟩ := hargs c
  refine ⟨h1.trans ?_, h3.trans ?_, ha⟩
  · rw [e0, e1]
    exact (Cert.MemKvRefIdeal.Product.keys _ _).trans (Cert.MemKvIdeal.Product.keys m c).symm
  · rw [e0, e2]
    exact (Cert.MemKvRefIdeal.Product.keys _ _).trans (Cert.MemKvIdeal.Product.values m c).symm

end Cert.MemKvProof

end
-- ==== Proof.LayerMath.lean ====
/-
  The two functions the expert layers are made of, on plain families of extended reals: one gated expert applied to a
  row, and the layer normalisation of a row. Each kernel and each reference is compared with these.
-/
module

public import Idealize.ShloMosaic.Lib.Pointwise
public import Idealize.ShloMosaic.Lib.WordCmp

@[expose] public section

noncomputable section

open Idealize.ShloMosaic

namespace Cert.LayerMath

/-- `x · sigmoid(x)`. -/
def swish (x : EReal) : EReal := x * Ideal.div 1 (1 + Ideal.exp (-x))

/-- One expert at column `j`: the row `x` through the two halves of `wu` (the first gated by `swish`, times the
    second), then through `wd`. -/
def expert (x : Fin 1024 → EReal) (wu : Fin 1024 → Fin 512 → EReal) (wd : Fin 256 → Fin 1024 → EReal)
    (j : Fin 1024) : EReal :=
  ∑ k : Fin 256, swish (∑ d : Fin 1024, x d * wu d ⟨k.val, by omega⟩)
    * (∑ d : Fin 1024, x d * wu d ⟨256 + k.val, by omega⟩) * wd k j

/-- A row's mean. -/
def mean (v : Fin 1024 → EReal) : EReal := Ideal.div (∑ j, v j) (Ideal.ofBits .f32 0x44800000#32)

/-- Layer normalisation of the row `v` with gain `g` and shift `b`, at column `j`. -/
def layerNorm (v g b : Fin 1024 → EReal) (j : Fin 1024) : EReal :=
  (v j - mean v) * Ideal.rsqrt (mean (fun k => (v k - mean v) * (v k - mean v)) + Ideal.ofBits .f32 0x3727C5AC#32)
    * g j + b j

/-- The residual scale `2^(1/4)` as both programs have it. -/
abbrev alpha : EReal := Ideal.ofBits .f32 0x3F9837F0#32

/-- Selecting one lane of a row by comparing the lane numbers with `e`, and summing, reads that lane. -/
theorem sum_select_lane {n : ℕ} (hn : n ≤ 2 ^ 32) (v : Fin n → EReal) (e : Fin n) :
    (∑ x : Fin n, Scalar.select (IntOp.cmpi CmpIPredicate.eq (BitVec.ofNat 32 x.val) (BitVec.ofNat 32 e.val)) (v x) 0)
      = v e := by
  have h : ∀ x : Fin n, Scalar.select (IntOp.cmpi CmpIPredicate.eq (BitVec.ofNat 32 x.val) (BitVec.ofNat 32 e.val)) (v x) 0
      = if x = e then v x else 0 := fun x => by
    rw [WordCmp.cmpi_eq_ofNat (lt_of_lt_of_le x.isLt hn) (lt_of_lt_of_le e.isLt hn), WordCmp.select_ofBool]
    simp [Fin.ext_iff]
  rw [Finset.sum_congr rfl fun x _ => h x, Finset.sum_ite_eq' Finset.univ e v]
  simp

end Cert.LayerMath

end
-- ==== Proof.SampleMoeValue.lean ====
/-
  The expert layer over the sample rows: the kernel walks the 32 experts, adding each gated expert to a running sum,
  and normalises the residual at the last; the reference sums the experts at once.
-/
module

public import proofs.«01_k».proof.Defs
public import proofs.«01_k».proof.Proof.LayerMath
public import proofs.«01_k».proof.Proof.Gen.SampleMoeIdeal.Value
public import proofs.«01_k».proof.Proof.Gen.SampleMoeRefIdeal.Run
public import proofs.«01_k».proof.Proof.Gen.SampleMoeRefIdeal.Read
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SampleMoeIdeal.Experts

open Cert.SampleMoeIdeal Cert.SampleMoeIdeal.Gen Cert.LayerMath

variable (m : (ℓ : Loc nD τ sig) → Buf (Elt Ideal) ℓ)

/-- The gated expert `e` of row `r`, at column `j`. -/
def term (h : FVec Ideal S32x1024 .f32) (gate : FVec Ideal S32x32 .f32) (wu : FVec Ideal S1x32x1024x512 .f32)
    (wd : FVec Ideal S1x32x256x1024 .f32) (e : Fin 32) (r : Fin 32) (j : Fin 1024) : EReal :=
  gate (ix2 r e) * expert (fun d => h (ix2 r d)) (fun d q => wu (ix4 0 e d q)) (fun k l => wd (ix4 0 e k l)) j

/-- The layer: the experts' sum, the residual, the normalisation. -/
def layer (h : FVec Ideal S32x1024 .f32) (gate : FVec Ideal S32x32 .f32) (wu : FVec Ideal S1x32x1024x512 .f32)
    (wd : FVec Ideal S1x32x256x1024 .f32) (g b : FVec Ideal S1x1024 .f32) : FVec Ideal S32x1024 .f32 :=
  fun i => layerNorm (fun j => alpha * h (ix2 (i 0) j) + ∑ e : Fin 32, term h gate wu wd e (i 0) j)
    (fun j => g (ix2 0 j)) (fun j => b (ix2 0 j)) (i 1)

/-- One step of the running sum. -/
theorem step (i : grid0.Coords) (v3 : FVec Ideal S32x1024 .bf16) (v4 : FVec Ideal S1x1024x512 .bf16)
    (v19 : FVec Ideal S32x32 .f32) (v27 : FVec Ideal S32x1024 .f32) (v28 : FVec Ideal S1x256x1024 .bf16)
    (r : Fin 32) (j : Fin 1024) :
    k0_pay1 (k0_pay5 (F := Ideal) i v3 v4 v19 v27 v28) (ix2 r j) = v27 (ix2 r j) + v19 (ix2 r (i 1))
      * expert (fun d => v3 (ix2 r d)) (fun d q => v4 (ix3 0 d q)) (fun k l => v28 (ix3 0 k l)) j := by
  pointwise [k0_pay1, k0_pay5]
  have hs := sum_select_lane (by norm_num) (fun x : Fin 32 => v19 (ix2 r x)) (i 1)
  rw [hs]
  simp only [zero_sub]
  rfl

theorem zero (j : S32x1024.Idx) : k0_pay4 (F := Ideal) j = 0 := by pointwise [k0_pay4]

theorem cast (v : FVec Ideal S32x1024 .f32) (j : S32x1024.Idx) : k0_pay3 (F := Ideal) v j = v j := by pointwise [k0_pay3]

/-- The last step's normalisation. -/
theorem norm (v40 v43 : FVec Ideal S32x1024 .f32) (v45 v47 : FVec Ideal S1x1024 .f32) (r : Fin 32) (j : Fin 1024) :
    k0_pay2 (F := Ideal) v40 v43 v45 v47 (ix2 r j)
      = layerNorm (fun k => alpha * v40 (ix2 r k) + v43 (ix2 r k)) (fun k => v45 (ix2 0 k)) (fun k => v47 (ix2 0 k)) j := by
  pointwise [k0_pay2]
  rfl

/-- Which block of each array a grid point sees. -/
theorem idx : ∀ t : Fin cfg0.N, win0_0.index t = ![0, 0] ∧ win0_1.index t = ![0, 0] ∧ win0_2.index t = ![t.val, 0, 0]
    ∧ win0_3.index t = ![t.val, 0, 0] ∧ win0_4.index t = ![0, 0] ∧ win0_5.index t = ![0, 0] ∧ win0_6.index t = ![0, 0]
    ∧ (grid0.coords t 1).val = t.val :=
  (by decide +kernel : ∀ t : Fin grid0.N, _)

theorem up (c : Dev nD) (i : S32x1024x512.Idx) :
    V m c main_v1 i = m ((c : Thread nD τ).loc main_arg2) (ix4 0 (i 0) (i 1) (i 2)) := by
  entry_read
  pointwise

theorem down (c : Dev nD) (i : S32x256x1024.Idx) :
    V m c main_v3 i = m ((c : Thread nD τ).loc main_arg3) (ix4 0 (i 0) (i 1) (i 2)) := by
  entry_read
  pointwise

theorem gain (c : Dev nD) (i : S1x1024.Idx) :
    V m c main_v5 i = m ((c : Thread nD τ).loc main_arg4) (ix2 0 (i 1)) := by
  entry_read
  pointwise

theorem shift (c : Dev nD) (i : S1x1024.Idx) :
    V m c main_v7 i = m ((c : Thread nD τ).loc main_arg5) (ix2 0 (i 1)) := by
  entry_read
  pointwise

/-- The argument arrays, at their shapes. -/
abbrev argH (c : Dev nD) : FVec Ideal S32x1024 .f32 := m ((c : Thread nD τ).loc main_arg0)
abbrev argGate (c : Dev nD) : FVec Ideal S32x32 .f32 := m ((c : Thread nD τ).loc main_arg1)
abbrev argUp (c : Dev nD) : FVec Ideal S1x32x1024x512 .f32 := m ((c : Thread nD τ).loc main_arg2)
abbrev argDown (c : Dev nD) : FVec Ideal S1x32x256x1024 .f32 := m ((c : Thread nD τ).loc main_arg3)
abbrev argGain (c : Dev nD) : FVec Ideal S1x1024 .f32 := m ((c : Thread nD τ).loc main_arg4)
abbrev argShift (c : Dev nD) : FVec Ideal S1x1024 .f32 := m ((c : Thread nD τ).loc main_arg5)

theorem row_block (c : Dev nD) (t : Fin cfg0.N) (r : Fin 32) (d : Fin 1024) :
    (show FVec Ideal S32x1024 .f32 from iblk m c 0 t) (ix2 r d) = argH m c (ix2 r d) := by
  blk_point [iblk, V, idx t]

theorem gate_block (c : Dev nD) (t : Fin cfg0.N) (r : Fin 32) (d : Fin 32) :
    (show FVec Ideal S32x32 .f32 from iblk m c 1 t) (ix2 r d) = argGate m c (ix2 r d) := by
  blk_point [iblk, V, idx t]

theorem rows_first (c : Dev nD) (t : Fin cfg0.N) (h0 : t.val % 32 = 0) (r : Fin 32) (d : Fin 1024) :
    (outsAt0 m c t.val t.isLt).2.1 (ix2 r d) = argH m c (ix2 r d) := by
  rw [outsAt0_A m c t h0 (by omega)]
  frame_out
  rw [cast]
  exact row_block m c t r d

theorem rows_next (c : Dev nD) (t : Fin cfg0.N) (h0 : ¬t.val % 32 = 0) :
    (outsAt0 m c t.val t.isLt).2.1 = (outsAt0 m c (t.val - 1) (Nat.lt_of_le_of_lt (Nat.sub_le _ _) t.isLt)).2.1 := by
  by_cases h1 : t.val % 32 = 31
  · rw [outsAt0_C m c t h0 h1]
    rfl
  · rw [outsAt0_B m c t h0 h1]
    rfl

/-- The cast rows stay in their buffer from the first point on. -/
theorem rows (c : Dev nD) : ∀ (n : ℕ) (h : n < cfg0.N) (r : Fin 32) (d : Fin 1024),
    (outsAt0 m c n h).2.1 (ix2 r d) = argH m c (ix2 r d)
  | 0, h, r, d => rows_first m c ⟨0, h⟩ (Nat.zero_mod 32) r d
  | n + 1, h, r, d => by
    have hN : n + 1 < 32 := lt_of_lt_of_eq h N_0
    have e := rows_next m c ⟨n + 1, h⟩ (by dsimp only; omega)
    exact (congrFun e (ix2 r d)).trans (rows c n _ r d)

/-- A point's gated expert, read from its blocks. -/
theorem term_block (c : Dev nD) (t : Fin cfg0.N) (x : Fin 1024 → EReal) (r : Fin 32) (j : Fin 1024) (e : Fin 32) (he : e.val = t.val)
    (hx : ∀ d, x d = argH m c (ix2 r d)) :
    (show FVec Ideal S32x32 .f32 from iblk m c 1 t) (ix2 r (grid0.coords t 1))
      * expert x (fun d q => (show FVec Ideal S1x1024x512 .bf16 from iblk m c 2 t) (ix3 0 d q))
          (fun k l => (show FVec Ideal S1x256x1024 .bf16 from iblk m c 3 t) (ix3 0 k l)) j
      = term (argH m c) (argGate m c) (argUp m c) (argDown m c) e r j := by
  obtain rfl : x = fun d => argH m c (ix2 r d) := funext hx
  have hc : grid0.coords t 1 = e := Fin.ext ((idx t).2.2.2.2.2.2.2.trans he.symm)
  have h1 : (fun d q => (show FVec Ideal S1x1024x512 .bf16 from iblk m c 2 t) (ix3 0 d q))
      = fun d q => argUp m c (ix4 0 e d q) := by
    funext d q
    refine Eq.trans (b := V m c main_v1 (ix3 e d q)) ?_ (up m c _)
    blk_point [iblk, idx t, he]
  have h2 : (fun k l => (show FVec Ideal S1x256x1024 .bf16 from iblk m c 3 t) (ix3 0 k l))
      = fun k l => argDown m c (ix4 0 e k l) := by
    funext d q
    refine Eq.trans (b := V m c main_v3 (ix3 e d q)) ?_ (down m c _)
    blk_point [iblk, idx t, he]
  unfold term
  rw [hc, gate_block, h1, h2]

/-- Point `t` as the number of its expert. -/
abbrev expertOf (t : Fin cfg0.N) : Fin 32 := ⟨t.val, lt_of_lt_of_eq t.isLt N_0⟩

theorem sum_first (c : Dev nD) (t : Fin cfg0.N) (h0 : t.val % 32 = 0) (r : Fin 32) (j : Fin 1024) :
    (outsAt0 m c t.val t.isLt).2.2 (ix2 r j)
      = 0 + term (argH m c) (argGate m c) (argUp m c) (argDown m c) (expertOf t) r j := by
  rw [outsAt0_A m c t h0 (by omega)]
  frame_out
  refine (step _ _ _ _ _ _ r j).trans ?_
  rw [zero]
  exact congrArg (0 + ·) (term_block m c t _ r j (expertOf t) rfl fun d => (cast _ _).trans (row_block m c t r d))

theorem sum_next (c : Dev nD) (t : Fin cfg0.N) (h0 : ¬t.val % 32 = 0) (r : Fin 32) (j : Fin 1024) :
    (outsAt0 m c t.val t.isLt).2.2 (ix2 r j)
      = (outsAt0 m c (t.val - 1) (Nat.lt_of_le_of_lt (Nat.sub_le _ _) t.isLt)).2.2 (ix2 r j)
        + term (argH m c) (argGate m c) (argUp m c) (argDown m c) (expertOf t) r j := by
  by_cases h1 : t.val % 32 = 31
  · rw [outsAt0_C m c t h0 h1]
    frame_out
    refine (step _ _ _ _ _ _ r j).trans ?_
    exact Ideal.add_congr (congrFun (read_unread_whole _ _ _) _) (term_block m c t _ r j (expertOf t) rfl fun d => (congrFun (read_unread_whole _ _ _) _).trans (rows m c (t.val - 1) _ r d))
  · rw [outsAt0_B m c t h0 h1]
    frame_out
    refine (step _ _ _ _ _ _ r j).trans ?_
    exact Ideal.add_congr (congrFun (read_unread_whole _ _ _) _) (term_block m c t _ r j (expertOf t) rfl fun d => (congrFun (read_unread_whole _ _ _) _).trans (rows m c (t.val - 1) _ r d))

/-- The running sum after the last expert. -/
theorem sum_last (c : Dev nD) (t : Fin cfg0.N) (ht : t.val + 1 = cfg0.N) (r : Fin 32) (j : Fin 1024) :
    (outsAt0 m c t.val t.isLt).2.2 (ix2 r j)
      = ∑ e : Fin 32, term (argH m c) (argGate m c) (argUp m c) (argDown m c) e r j := by
  rw [Pipeline.eq_sum_fin_of_reset_step_apply_last (ι := Fin 32 × Fin 1024) (M := EReal)
    (fun n h i => (outsAt0 m c n h).2.2 (ix2 i.1 i.2)) 32 (fun _ => 0)
    (fun t i => term (argH m c) (argGate m c) (argUp m c) (argDown m c) (expertOf t) i.1 i.2)
    (fun t h i => sum_first m c t h i.1 i.2) (fun t h i => sum_next m c t h i.1 i.2) (le_of_eq N_0) t ht (r, j), zero_add]
  exact Fintype.sum_equiv (finCongr N_0) _ _ fun t => rfl

/-- The result array after the run. -/
theorem final (c : Dev nD) : (dats m 0 c).arrAt 6 cfg0.N
    = layer (argH m c) (argGate m c) (argUp m c) (argDown m c) (argGain m c) (argShift m c) := by
  refine (dats m 0 c).arrAt_eq_of_covers 6 _ (by decide +kernel) fun t hf y => ?_
  have ht := (flush0_6 t).mp hf
  have hN : cfg0.N = 32 := N_0
  blk_simp
  have hs := sum_last m c t (by have := t.isLt; omega)
  rw [outsAt0_C m c t (by omega) ht] at hs
  rw [after0_6, outsAt0_C m c t (by omega) ht]
  frame_out
  frame_out at hs
  idx_vars y
  refine (norm _ _ _ _ y0 y1).trans ?_
  have hg : (fun k => (show FVec Ideal S1x1024 .f32 from iblk m c 4 t) (ix2 0 k)) = fun k => argGain m c (ix2 0 k) := by
    funext k
    refine Eq.trans (b := V m c main_v5 (ix2 0 k)) ?_ (gain m c _)
    blk_point [iblk, idx t]
  have hb : (fun k => (show FVec Ideal S1x1024 .f32 from iblk m c 5 t) (ix2 0 k)) = fun k => argShift m c (ix2 0 k) := by
    funext k
    refine Eq.trans (b := V m c main_v7 (ix2 0 k)) ?_ (shift m c _)
    blk_point [iblk, idx t]
  have hv : (fun k => alpha * (show FVec Ideal S32x1024 .f32 from iblk m c 0 t) (ix2 y0 k) + k0_pay1
        (k0_pay5 (grid0.coords t)
          (View.read (Elt Ideal) (View.whole cc0_scratch0) ((Memref.isWhole_whole cc0_scratch0).unread (outsAt0 m c (t.val - 1) (Nat.lt_of_le_of_lt (Nat.sub_le _ _) t.isLt)).2.1))
          (iblk m c 2 t) (iblk m c 1 t)
          (View.read (Elt Ideal) (View.whole cc0_scratch1) ((Memref.isWhole_whole cc0_scratch1).unread (outsAt0 m c (t.val - 1) (Nat.lt_of_le_of_lt (Nat.sub_le _ _) t.isLt)).2.2))
          (iblk m c 3 t)) (ix2 y0 k))
      = fun j => alpha * argH m c (ix2 y0 j) + ∑ e : Fin 32, term (argH m c) (argGate m c) (argUp m c) (argDown m c) e y0 j := by
    funext k
    rw [hs y0 k, row_block]
  rw [hg, hb, hv]
  have e : (((View.whole main_v8).slice (win0_6.rect t)).emb (ix2 y0 y1) : S32x1024.Idx) = ix2 y0 y1 := by blk_ext [idx t]
  exact (congrArg (layer (argH m c) (argGate m c) (argUp m c) (argDown m c) (argGain m c) (argShift m c)) e).symm

end Cert.SampleMoeIdeal.Experts

namespace Cert.SampleMoeRefIdeal.Experts

open Cert.SampleMoeRefIdeal Cert.SampleMoeRefIdeal.Read Cert.LayerMath

/-- The reference's sum over the experts. -/
theorem sum (x0 : FVec Ideal S32x1024 .f32) (x1 : FVec Ideal S32x32 .f32) (x2 : FVec Ideal S1x32x1024x512 .f32)
    (x3 : FVec Ideal S1x32x256x1024 .f32) (r : Fin 32) (j : Fin 1024) :
    val_main_v13 (F := Ideal) x0 x1 x2 x3 (ix2 r j)
      = ∑ e : Fin 32, Cert.SampleMoeIdeal.Experts.term x0 x1 x2 x3 e r j := by
  pointwise [val_main_v0, val_main_v1, val_main_v2, val_main_v3, val_main_v4, val_main_v5, val_main_v6, val_main_v7,
    val_main_v8, val_main_v9, val_main_v10, val_main_v11, val_main_v12, val_main_v13, val_main_cst, val_main_call0_v0,
    val_main_call0_v1, val_main_call0_v2, val_main_call0_v3, val_main_call0_v4, val_main_call0_v5, val_main_call0_cst,
    val_main_call0_cst_0, Cert.SampleMoeIdeal.Experts.term, expert, swish]
  simp only [mul_comm (x2 _) (x0 _)]

/-- The reference's result is the layer. -/
theorem layer_eq (x0 : FVec Ideal S32x1024 .f32) (x1 : FVec Ideal S32x32 .f32) (x2 : FVec Ideal S1x32x1024x512 .f32)
    (x3 : FVec Ideal S1x32x256x1024 .f32) (x4 x5 : FVec Ideal S1x1024 .f32) :
    val_main_v42 (F := Ideal) x0 x1 x2 x3 x4 x5 = Cert.SampleMoeIdeal.Experts.layer x0 x1 x2 x3 x4 x5 := by
  funext i
  idx_vars i
  have hs := sum x0 x1 x2 x3
  generalize hy : val_main_v13 (F := Ideal) x0 x1 x2 x3 = y at hs
  pointwise [val_main_v42, val_main_v41, val_main_v40, val_main_v39, val_main_v38, val_main_v37, val_main_v36, val_main_v35,
    val_main_v34, val_main_v33, val_main_v32, val_main_v31, val_main_v30, val_main_v29, val_main_v28, val_main_v27,
    val_main_v26, val_main_v25, val_main_v24, val_main_v23, val_main_v22, val_main_v21, val_main_v20, val_main_v19,
    val_main_v18, val_main_v17, val_main_v16, val_main_v15, val_main_v14, val_main_cst_0, val_main_cst_1, val_main_cst_2,
    val_main_cst_3, val_main_cst_4, val_main_cst_5, hy, hs, Cert.SampleMoeIdeal.Experts.layer, layerNorm, mean]

end Cert.SampleMoeRefIdeal.Experts

namespace Cert.SampleMoeProof

/-- The reference leaves its arguments unchanged and ends with every counter at zero. -/
theorem frame_reference : Cert.quiescent_SampleMoeRefIdeal (hSampleMoeRefIdeal := Cert.SampleMoeRefIdeal.Gen.facts) :=
  fun m ρ _ => (θ_run _ _ _).mono (fun r h => ⟨fun c => (h c).2, sem_eq_zero_of_no_sems (by decide) _⟩)
    (Cert.SampleMoeRefIdeal.Value.run (F := Ideal) m ρ)

/-- Both programs end with the layer. -/
theorem same_results : Cert.algebraic_SampleMoeIdeal_SampleMoeRefIdeal (hSampleMoeIdeal := Cert.SampleMoeIdeal.Gen.facts)
    (hSampleMoeRefIdeal := Cert.SampleMoeRefIdeal.Gen.facts) := by
  intro m g m' g' _ hargs
  refine ⟨_, Cert.SampleMoeIdeal.Value.run (F := Ideal) m g, (θ_run _ _ _).mono (fun r h c => ?_)
    (Cert.SampleMoeRefIdeal.Value.run (F := Ideal) m' g')⟩
  obtain ⟨h1, ha⟩ := h c
  obtain ⟨e0, e1, e2, e3, e4, e5⟩ := hargs c
  refine ⟨h1.trans ?_, ha⟩
  refine (Cert.SampleMoeRefIdeal.Read.val_main_v42_eq m' c).trans ?_
  rw [e0, e1, e2, e3, e4, e5]
  exact (Cert.SampleMoeRefIdeal.Experts.layer_eq _ _ _ _ _ _).trans
    ((Cert.SampleMoeIdeal.Experts.final m c).symm.trans (Cert.SampleMoeIdeal.Value.final6 m c))

end Cert.SampleMoeProof

end
-- ==== Proof.Grouped.Shared.lean ====
/- The prompt group's expert layer: what the runs of the kernel body share — @main up to the kernel call, the table of
   tile groups, the blocks each window stages, and the conditions the body branches on. Stated for any carrier of the
   float arithmetic, so that both readings of the kernel use it. -/
module

public import proofs.«01_k».proof.Proof.Gen.GroupedMoeIdeal.Launch
public import proofs.«01_k».proof.Proof.Gen.GroupedMoeIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.GroupedMoeIdeal.Tiles

open Cert.GroupedMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S36 .i32 := Memref.whole main_arg1
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_GroupedMoeIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-! ## The group of a point's tile -/

/-- The table's word the body loads at grid coordinates `i`: the group of the tile, negative for a tile of no group. -/
abbrev groupAt (c : Dev nD) (i : grid0.Coords) (xt0 : TbBuf0 (F := F) c tbM0_0) : BitVec 32 :=
  (tbM0_0.access (Rect.unit (s := S36) (k0_off1 i) S1.size (k0_off1_inb i))).read (Elt F) xt0 (Shape.Idx.first (numel1_S1.symm ▸ Nat.one_pos))

/-! ## The body's branch conditions -/

/-- The condition of the body's `scf.if` 0 (`k0_h3`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin grid0.N, cond0_0 (grid0.coords t) ↔ t.val % 8 = 0 :=
  (fun t => by
    have ht : t.val < 288 := Nat.lt_of_lt_of_eq t.isLt N_0
    have e0 : (grid0.coords t 0).val = t.val / 8 % 36 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h4`), from the grid coordinates (the skeleton's scalar
    chain substituted). -/
abbrev cond0_1 (i : grid0.Coords) : Prop := k0_cond4 i = 1#1
/-- It holds at the points ≡ 7 (mod 8) — by arithmetic of the point. -/
theorem hcond0_1 : ∀ t : Fin grid0.N, cond0_1 (grid0.coords t) ↔ t.val % 8 = 7 :=
  (fun t => by
    have ht : t.val < 288 := Nat.lt_of_lt_of_eq t.isLt N_0
    have e0 : (grid0.coords t 0).val = t.val / 8 % 36 := Pipeline.Grid.coords_val t 0 (by decide) rfl
    have e1 : (grid0.coords t 1).val = t.val / 1 % 8 := Pipeline.Grid.coords_val t 1 (by decide) rfl
    simp only [cond0_1, k0_cond4, e0, e1]
    word_cmp
   : ∀ t : Fin grid0.N, cond0_1 (grid0.coords t) ↔ t.val % 8 = 7)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  fun _ => rfl
/-- Window 1 is never idle (an input). -/
theorem liveAt0_1 (hO : Ok m) : ∀ t : Fin (cfgM m hO).N, (cfgM m hO).idle 1 (grid0.coords t) = false :=
  fun _ => rfl
/-- Window 2 is never idle (an input). -/
theorem liveAt0_2 (hO : Ok m) : ∀ t : Fin (cfgM m hO).N, (cfgM m hO).idle 2 (grid0.coords t) = false :=
  fun _ => rfl
/-- Window 3 is never idle (an input). -/
theorem liveAt0_3 (hO : Ok m) : ∀ t : Fin (cfgM m hO).N, (cfgM m hO).idle 3 (grid0.coords t) = false :=
  fun _ => rfl
/-- Window 4 is never idle (an input). -/
theorem liveAt0_4 (hO : Ok m) : ∀ t : Fin (cfgM m hO).N, (cfgM m hO).idle 4 (grid0.coords t) = false :=
  fun _ => rfl
/-! ## The kernel body on any staging memrefs: a subtype the run finds -/

/-- One staging buffer of output window 5, through which its contents are stated (`View.read_writes_of_cover`: the
    choice does not matter). -/
abbrev VO0_5 : View sig .tc .vmem S1024x1024 .f32 := (Memref.whole cc0_stg5_0 : Memref sig .tc .vmem S1024x1024 .f32).view
/-- Each window's current staging memref at point `t`, spelled as the pipeline passes it (`bodyAt0`), and its wholeness. -/
abbrev ms0_0 (hO : Ok m) (t : Fin (cfgM m hO).N) : Memref sig .tc .vmem S1024x1152 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x512 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x256x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x1024 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S1024x1024 .bf16 := Memref.whole cc0_scratch0
abbrev scM0_1 : Memref sig .tc .vmem S1024x1024 .f32 := Memref.whole cc0_scratch1
/-- The scratch `arg9` the kernel carries between points, as a view: what it holds is stated through it. -/
abbrev VS0_0 : View sig .tc .vmem S1024x1024 .bf16 := scM0_0.view
/-- The scratch `arg10` the kernel carries between points, as a view: what it holds is stated through it. -/
abbrev VS0_1 : View sig .tc .vmem S1024x1024 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.GroupedMoeIdeal.Tiles

end
-- ==== Proof.Grouped.RunA.lean ====
/- The run of the kernel body of the prompt group's expert layer at expert 0 of a tile with a group: the layer's input is cast into its scratch, the sum is set to zero, and the expert is added. -/
module

public import proofs.«01_k».proof.Proof.Grouped.Shared

@[expose] public section

-- membership in a rectangle of production extents (`View.cover_of_tiled`): the elaborator's structural look
-- recurses once per coordinate of the long axes
set_option maxRecDepth 16384

noncomputable section

namespace Cert.GroupedMoeIdeal.Tiles

open Cert.GroupedMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at expert 0 of a tile with a group: the layer's input is cast into its scratch, the sum is set to zero, and the expert is added. What its stores leave, as pieces (last first), WITH the proof that on whole buffers the body runs
    to a continuation holding the inputs as they were and each stored buffer with its pieces written. -/
noncomputable def kernelRun0_A (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1) :
    Σ' (L5 : List (View.Piece (Elt F) S1024x1024 .f32)), Σ' (LS0 : List (View.Piece (Elt F) S1024x1024 .bf16)), { LS1 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ tbPt0 c tbM0_0 xt0) -∗ K ⟨⟩))
          ⊢ wp frame (wpE (defs₀ (F := F)) Variants.none c none) E (cc0_moe_grouped_ln i tbM0_0 htbM0_0 arg3 harg3 arg4 harg4 arg5 harg5 arg6 harg6 arg7 harg7 arg8 harg8 arg9 harg9 arg10 harg10) K } := by
  refine ⟨[], ?_, ?_, fun xi5 E K => ?run⟩
  case run =>
    simp only [cc0_moe_grouped_ln_eq_skeleton]; unfold cc0_moe_grouped_ln_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hg1 | sl_exact hg2 | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexact HT0

end Cert.GroupedMoeIdeal.Tiles

end
-- ==== Proof.Grouped.RunB.lean ====
/- The run of the kernel body of the prompt group's expert layer at experts 1 to 6 of a tile with a group: the expert is added to the sum. -/
module

public import proofs.«01_k».proof.Proof.Grouped.RunA

@[expose] public section

-- membership in a rectangle of production extents (`View.cover_of_tiled`): the elaborator's structural look
-- recurses once per coordinate of the long axes
set_option maxRecDepth 16384

noncomputable section

namespace Cert.GroupedMoeIdeal.Tiles

open Cert.GroupedMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at experts 1 to 6 of a tile with a group: the expert is added to the sum. What its stores leave, as pieces (last first), WITH the proof that on whole buffers the body runs
    to a continuation holding the inputs as they were and each stored buffer with its pieces written. -/
noncomputable def kernelRun0_B (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1) (xs0 : Vec F S1024x1024 .bf16) (xs1 : Vec F S1024x1024 .f32) :
    Σ' (L5 : List (View.Piece (Elt F) S1024x1024 .f32)), Σ' (LS0 : List (View.Piece (Elt F) S1024x1024 .bf16)), { LS1 : List (View.Piece (Elt F) S1024x1024 .f32) //
      ∀ (xi5 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ (∃ f, arg10.view.loc (c : Thread nD τ) ↦[arg10.view.set]{fullShare} arg10.view.writes (Elt F) f LS1) ∗ tbPt0 c tbM0_0 xt0) -∗ K ⟨⟩))
          ⊢ wp frame (wpE (defs₀ (F := F)) Variants.none c none) E (cc0_moe_grouped_ln i tbM0_0 htbM0_0 arg3 harg3 arg4 harg4 arg5 harg5 arg6 harg6 arg7 harg7 arg8 harg8 arg9 harg9 arg10 harg10) K } := by
  refine ⟨[], [], ?_, fun xi5 E K => ?run⟩
  case run =>
    simp only [cc0_moe_grouped_ln_eq_skeleton]; unfold cc0_moe_grouped_ln_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0; obtain rfl := harg10.eq_unread hfs1
    sl_exec (disch := first | sl_exact hg1 | sl_exact hg2 | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]
    · iexists _; isplitr; · ipureintro; exact harg9.read_unread _
      iexact HS0
    isplitl [HS1]; · iexists _; iexact HS1
    iexact HT0

end Cert.GroupedMoeIdeal.Tiles

end
-- ==== Proof.Grouped.RunC.lean ====
/- The run of the kernel body of the prompt group's expert layer at expert 7 of a tile with a group: the last expert is added and the tile's block is written, the normed sum. -/
module

public import proofs.«01_k».proof.Proof.Grouped.RunB

@[expose] public section

-- membership in a rectangle of production extents (`View.cover_of_tiled`): the elaborator's structural look
-- recurses once per coordinate of the long axes
set_option maxRecDepth 16384

noncomputable section

namespace Cert.GroupedMoeIdeal.Tiles

open Cert.GroupedMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at expert 7 of a tile with a group: the last expert is added and the tile's block is written, the normed sum. What its stores leave, as pieces (last first), WITH the proof that on whole buffers the body runs
    to a continuation holding the inputs as they were and each stored buffer with its pieces written. -/
noncomputable def kernelRun0_C (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1) (xs0 : Vec F S1024x1024 .bf16) (xs1 : Vec F S1024x1024 .f32) :
    Σ' (L5 : List (View.Piece (Elt F) S1024x1024 .f32)), Σ' (LS0 : List (View.Piece (Elt F) S1024x1024 .bf16)), { LS1 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xs0 ∗ (∃ f, arg10.view.loc (c : Thread nD τ) ↦[arg10.view.set]{fullShare} arg10.view.writes (Elt F) f LS1) ∗ tbPt0 c tbM0_0 xt0) -∗ K ⟨⟩))
          ⊢ wp frame (wpE (defs₀ (F := F)) Variants.none c none) E (cc0_moe_grouped_ln i tbM0_0 htbM0_0 arg3 harg3 arg4 harg4 arg5 harg5 arg6 harg6 arg7 harg7 arg8 harg8 arg9 harg9 arg10 harg10) K } := by
  refine ⟨?_, [], ?_, fun E K => ?run⟩
  case run =>
    simp only [cc0_moe_grouped_ln_eq_skeleton]; unfold cc0_moe_grouped_ln_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | sl_exact hg1 | sl_exact hg2 | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]; · iexists _; iexact HS1
    iexact HT0

end Cert.GroupedMoeIdeal.Tiles

end
-- ==== Proof.Grouped.RunD.lean ====
/- The run of the kernel body of the prompt group's expert layer at a tile of no group: the block is set to zero and nothing else is touched. -/
module

public import proofs.«01_k».proof.Proof.Grouped.RunC

@[expose] public section

-- membership in a rectangle of production extents (`View.cover_of_tiled`): the elaborator's structural look
-- recurses once per coordinate of the long axes
set_option maxRecDepth 16384

noncomputable section

namespace Cert.GroupedMoeIdeal.Tiles

open Cert.GroupedMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- The body at a tile of no group: the block is set to zero and nothing else is touched. What its stores leave, as pieces (last first), WITH the proof that on whole buffers the body runs
    to a continuation holding the inputs as they were and each stored buffer with its pieces written. -/
noncomputable def kernelRun0_D (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : k0_cond1 (groupAt c i xt0) = 1#1) (hg2 : ¬k0_cond2 (groupAt c i xt0) = 1#1) (xs0 : Vec F S1024x1024 .bf16) (xs1 : Vec F S1024x1024 .f32) :
    { L5 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xs0 ∗ owns (c : Thread nD τ) arg10 fullShare xs1 ∗ tbPt0 c tbM0_0 xt0) -∗ K ⟨⟩))
          ⊢ wp frame (wpE (defs₀ (F := F)) Variants.none c none) E (cc0_moe_grouped_ln i tbM0_0 htbM0_0 arg3 harg3 arg4 harg4 arg5 harg5 arg6 harg6 arg7 harg7 arg8 harg8 arg9 harg9 arg10 harg10) K } := by
  refine ⟨?_, fun E K => ?run⟩
  case run =>
    simp only [cc0_moe_grouped_ln_eq_skeleton]; unfold cc0_moe_grouped_ln_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg10.eq_unread hfs1
    sl_exec (disch := first | sl_exact hg1 | sl_exact hg2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]
    · iexists _; isplitr; · ipureintro; exact harg10.read_unread _
      iexact HS1
    iexact HT0

end Cert.GroupedMoeIdeal.Tiles

end
-- ==== Proof.Grouped.Left.lean ====
/- What the kernel body of the prompt group's expert layer leaves in each buffer it stores into, as the body's own arithmetic
   on the blocks and on what its two scratch buffers held. -/
module

public import proofs.«01_k».proof.Proof.Grouped.RunD

public import Idealize.ShloMosaic.Lib.Pipeline.ValueKit
public import Idealize.ShloMosaic.Lib.Pointwise

@[expose] public section

-- membership in a rectangle of production extents (`View.cover_of_tiled`): the elaborator's structural look
-- recurses once per coordinate of the long axes
set_option maxRecDepth 16384

noncomputable section

namespace Cert.GroupedMoeIdeal.Tiles

open Cert.GroupedMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The features of a block of rows, its first 1024 columns. -/
abbrev features (x : Vec F S1024x1152 .f32) : Vec F S1024x1024 .f32 :=
  View.ld x (Rect.unit (s := S1024x1152) ![0, 0] S1024x1024.size inb_S1024x1152_S1024x1024_0_0)
/-- The router's record of a block of rows, its last 128 columns. -/
abbrev record (x : Vec F S1024x1152 .f32) : Vec F S1024x128 .f32 :=
  View.ld x (Rect.unit (s := S1024x1152) ![0, 1024] S1024x128.size inb_S1024x1152_S1024x128_0_1024)
/-- The features as the products read them. -/
def hidden (x : Vec F S1024x1152 .f32) : Vec F S1024x1024 .bf16 := k0_pay4 (features x)
/-- The sum `y` with expert `i 1` of group `g` added. -/
def added (i : grid0.Coords) (g : BitVec 32) (x : Vec F S1024x1152 .f32) (wu : Vec F S1x1024x512 .bf16) (wd : Vec F S1x256x1024 .bf16)
    (h : Vec F S1024x1024 .bf16) (y : Vec F S1024x1024 .f32) : Vec F S1024x1024 .f32 :=
  k0_pay2 (k0_pay6 (BitVec.ofNat 32 (i 1).val) g h wu (record x) y wd)
/-- The features scaled, with the sum added, normed. -/
def normed (x : Vec F S1024x1152 .f32) (y : Vec F S1024x1024 .f32) (g b : Vec F S1x1024 .f32) : Vec F S1024x1024 .f32 :=
  k0_pay3 (features x) y g b

/-- What the run of case A leaves in `arg9`, read back. -/
def leftA_9 (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1)  : Vec F S1024x1024 .bf16 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4 xt0 hg1 hg2 ).2.1)
theorem leftA_9_eq (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1)  :
    leftA_9 c i arg3 harg3 arg4 harg4 arg5 harg5 arg6 harg6 arg7 harg7 arg8 harg8 arg9 harg9 arg10 harg10 hc0 hc1 x0 x1 x2 x3 x4 xt0 hg1 hg2  = hidden x0 := by
  frame_out
  rfl
/-- Its pieces fill the buffer. -/
theorem leftA_9_cover (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1)  (y : S1024x1024.Idx) :
    ∃ pc ∈ (kernelRun0_A c i arg3 harg3 arg4 harg4 arg5 harg5 arg6 harg6 arg7 harg7 arg8 harg8 arg9 harg9 arg10 harg10 hc0 hc1 x0 x1 x2 x3 x4 xt0 hg1 hg2 ).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4 xt0 hg1 hg2 ).2.1 S1024x1024.size (by sl_kernel_rfl) y

/-- What the run of case A leaves in `arg10`, read back. -/
def leftA_10 (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1)  : Vec F S1024x1024 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3 x4 xt0 hg1 hg2 ).2.2.1)
theorem leftA_10_eq (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1)  :
    leftA_10 c i arg3 harg3 arg4 harg4 arg5 harg5 arg6 harg6 arg7 harg7 arg8 harg8 arg9 harg9 arg10 harg10 hc0 hc1 x0 x1 x2 x3 x4 xt0 hg1 hg2  = added i (groupAt c i xt0) x0 x1 x2 (hidden x0) (k0_pay5 (F := F)) := by
  frame_out
  rfl
/-- Its pieces fill the buffer. -/
theorem leftA_10_cover (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : cond0_0 i) (hc1 : ¬cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1)  (y : S1024x1024.Idx) :
    ∃ pc ∈ (kernelRun0_A c i arg3 harg3 arg4 harg4 arg5 harg5 arg6 harg6 arg7 harg7 arg8 harg8 arg9 harg9 arg10 harg10 hc0 hc1 x0 x1 x2 x3 x4 xt0 hg1 hg2 ).2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4 xt0 hg1 hg2 ).2.2.1 S1024x1024.size (by sl_kernel_rfl) y

/-- What the run of case B leaves in `arg10`, read back. -/
def leftB_10 (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1) (xs0 : Vec F S1024x1024 .bf16) (xs1 : Vec F S1024x1024 .f32) : Vec F S1024x1024 .f32 :=
  VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 x4 xt0 hg1 hg2 xs0 xs1).2.2.1)
theorem leftB_10_eq (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1) (xs0 : Vec F S1024x1024 .bf16) (xs1 : Vec F S1024x1024 .f32) :
    leftB_10 c i arg3 harg3 arg4 harg4 arg5 harg5 arg6 harg6 arg7 harg7 arg8 harg8 arg9 harg9 arg10 harg10 hc0 hc1 x0 x1 x2 x3 x4 xt0 hg1 hg2 xs0 xs1 = added i (groupAt c i xt0) x0 x1 x2 xs0 xs1 := by
  frame_out
  rfl
/-- Its pieces fill the buffer. -/
theorem leftB_10_cover (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : ¬cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1) (xs0 : Vec F S1024x1024 .bf16) (xs1 : Vec F S1024x1024 .f32) (y : S1024x1024.Idx) :
    ∃ pc ∈ (kernelRun0_B c i arg3 harg3 arg4 harg4 arg5 harg5 arg6 harg6 arg7 harg7 arg8 harg8 arg9 harg9 arg10 harg10 hc0 hc1 x0 x1 x2 x3 x4 xt0 hg1 hg2 xs0 xs1).2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xt0 hg1 hg2 xs0 xs1).2.2.1 S1024x1024.size (by sl_kernel_rfl) y

/-- What the run of case C leaves in `arg10`, read back. -/
def leftC_10 (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1) (xs0 : Vec F S1024x1024 .bf16) (xs1 : Vec F S1024x1024 .f32) : Vec F S1024x1024 .f32 :=
  VS0_1.read (Elt F) (VS0_1.writes (Elt F) VS0_1.junk (kernelRun0_C c i arg3 harg3 arg4 harg4 arg5 harg5 arg6 harg6 arg7 harg7 arg8 harg8 arg9 harg9 arg10 harg10 hc0 hc1 x0 x1 x2 x3 x4 xt0 hg1 hg2 xs0 xs1).2.2.1)
theorem leftC_10_eq (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1) (xs0 : Vec F S1024x1024 .bf16) (xs1 : Vec F S1024x1024 .f32) :
    leftC_10 c i arg3 harg3 arg4 harg4 arg5 harg5 arg6 harg6 arg7 harg7 arg8 harg8 arg9 harg9 arg10 harg10 hc0 hc1 x0 x1 x2 x3 x4 xt0 hg1 hg2 xs0 xs1 = added i (groupAt c i xt0) x0 x1 x2 xs0 xs1 := by
  frame_out
  rfl
/-- Its pieces fill the buffer. -/
theorem leftC_10_cover (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1) (xs0 : Vec F S1024x1024 .bf16) (xs1 : Vec F S1024x1024 .f32) (y : S1024x1024.Idx) :
    ∃ pc ∈ (kernelRun0_C c i arg3 harg3 arg4 harg4 arg5 harg5 arg6 harg6 arg7 harg7 arg8 harg8 arg9 harg9 arg10 harg10 hc0 hc1 x0 x1 x2 x3 x4 xt0 hg1 hg2 xs0 xs1).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xt0 hg1 hg2 xs0 xs1).2.2.1 S1024x1024.size (by sl_kernel_rfl) y

/-- What the run of case C leaves in `arg8`, read back. -/
def leftC_8 (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1) (xs0 : Vec F S1024x1024 .bf16) (xs1 : Vec F S1024x1024 .f32) : Vec F S1024x1024 .f32 :=
  VO0_5.read (Elt F) (VO0_5.writes (Elt F) VO0_5.junk (kernelRun0_C c i arg3 harg3 arg4 harg4 arg5 harg5 arg6 harg6 arg7 harg7 arg8 harg8 arg9 harg9 arg10 harg10 hc0 hc1 x0 x1 x2 x3 x4 xt0 hg1 hg2 xs0 xs1).1)
theorem leftC_8_eq (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1) (xs0 : Vec F S1024x1024 .bf16) (xs1 : Vec F S1024x1024 .f32) :
    leftC_8 c i arg3 harg3 arg4 harg4 arg5 harg5 arg6 harg6 arg7 harg7 arg8 harg8 arg9 harg9 arg10 harg10 hc0 hc1 x0 x1 x2 x3 x4 xt0 hg1 hg2 xs0 xs1 = normed x0 (added i (groupAt c i xt0) x0 x1 x2 xs0 xs1) x3 x4 := by
  frame_out
  rfl
/-- Its pieces fill the buffer. -/
theorem leftC_8_cover (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole) (hc0 : ¬cond0_0 i) (hc1 : cond0_1 i)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : ¬k0_cond1 (groupAt c i xt0) = 1#1) (hg2 : k0_cond2 (groupAt c i xt0) = 1#1) (xs0 : Vec F S1024x1024 .bf16) (xs1 : Vec F S1024x1024 .f32) (y : S1024x1024.Idx) :
    ∃ pc ∈ (kernelRun0_C c i arg3 harg3 arg4 harg4 arg5 harg5 arg6 harg6 arg7 harg7 arg8 harg8 arg9 harg9 arg10 harg10 hc0 hc1 x0 x1 x2 x3 x4 xt0 hg1 hg2 xs0 xs1).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xt0 hg1 hg2 xs0 xs1).1 S1024x1024.size (by sl_kernel_rfl) y

/-- What the run of case D leaves in `arg8`, read back. -/
def leftD_8 (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : k0_cond1 (groupAt c i xt0) = 1#1) (hg2 : ¬k0_cond2 (groupAt c i xt0) = 1#1) (xs0 : Vec F S1024x1024 .bf16) (xs1 : Vec F S1024x1024 .f32) : Vec F S1024x1024 .f32 :=
  VO0_5.read (Elt F) (VO0_5.writes (Elt F) VO0_5.junk (kernelRun0_D c i arg3 harg3 arg4 harg4 arg5 harg5 arg6 harg6 arg7 harg7 arg8 harg8 arg9 harg9 arg10 harg10  x0 x1 x2 x3 x4 xt0 hg1 hg2 xs0 xs1).1)
theorem leftD_8_eq (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : k0_cond1 (groupAt c i xt0) = 1#1) (hg2 : ¬k0_cond2 (groupAt c i xt0) = 1#1) (xs0 : Vec F S1024x1024 .bf16) (xs1 : Vec F S1024x1024 .f32) :
    leftD_8 c i arg3 harg3 arg4 harg4 arg5 harg5 arg6 harg6 arg7 harg7 arg8 harg8 arg9 harg9 arg10 harg10  x0 x1 x2 x3 x4 xt0 hg1 hg2 xs0 xs1 = k0_pay1 (F := F) := by
  frame_out
/-- Its pieces fill the buffer. -/
theorem leftD_8_cover (c : Dev nD) (i : grid0.Coords) (arg3 : Memref sig .tc .vmem S1024x1152 .f32) (harg3 : arg3.IsWhole) (arg4 : Memref sig .tc .vmem S1x1024x512 .bf16) (harg4 : arg4.IsWhole) (arg5 : Memref sig .tc .vmem S1x256x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1024x1024 .f32) (harg10 : arg10.IsWhole)
    (x0 : Vec F S1024x1152 .f32) (x1 : Vec F S1x1024x512 .bf16) (x2 : Vec F S1x256x1024 .bf16) (x3 : Vec F S1x1024 .f32) (x4 : Vec F S1x1024 .f32) (xt0 : TbBuf0 (F := F) c tbM0_0) (hg1 : k0_cond1 (groupAt c i xt0) = 1#1) (hg2 : ¬k0_cond2 (groupAt c i xt0) = 1#1) (xs0 : Vec F S1024x1024 .bf16) (xs1 : Vec F S1024x1024 .f32) (y : S1024x1024.Idx) :
    ∃ pc ∈ (kernelRun0_D c i arg3 harg3 arg4 harg4 arg5 harg5 arg6 harg6 arg7 harg7 arg8 harg8 arg9 harg9 arg10 harg10  x0 x1 x2 x3 x4 xt0 hg1 hg2 xs0 xs1).1, y ∈ pc.1.set :=
  View.cover_of_tiledL (kernelRun0_D c i arg3 harg3 arg4 harg4 arg5 harg5 arg6 harg6 arg7 harg7 arg8 harg8 arg9 harg9 arg10 harg10  x0 x1 x2 x3 x4 xt0 hg1 hg2 xs0 xs1).1 S1024x1024.size (by sl_kernel_rfl) y

end Cert.GroupedMoeIdeal.Tiles

end
-- ==== Proof.Grouped.Run.lean ====
/- The run of the prompt group's expert layer, at any carrier of the float arithmetic: what the two scratch buffers hold after
   each point of the grid, what a tile's block is, the body at every point, and the launch. A tile of no group leaves the
   scratch buffers at whatever they held, so their contents are named only after a point of a tile with a group; the first
   point of such a tile stores both whole. -/
module

public import proofs.«01_k».proof.Proof.Grouped.Left

public import Idealize.ShloMosaic.Lib.Claim

@[expose] public section

-- membership in a rectangle of production extents (`View.cover_of_tiled`): the elaborator's structural look
-- recurses once per coordinate of the long axes
set_option maxRecDepth 16384

noncomputable section

namespace Cert.GroupedMoeIdeal.Tiles

open Cert.GroupedMoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- Window 5 (result 0 (%8)) is written back at the points ≡ 7 (mod 8), at any contents of the tables (its index map reads none). -/
theorem flush0_5 (a : (pcfg0 (F := F)).Adm) : ∀ t : Fin (cfg0 a).N, ((cfg0 a).win 5).flush t = true ↔ t.val % 8 = 7 :=
  (fun t => Pipeline.Window.flushOf_reads cc0_transform_5 reads0_5 hreads0_5 0 (by decide) (by decide) (Pipeline.Window.sep_of_coord cc0_transform_5 0 0 (fun _ => rfl) (by decide)) (P := 8) (m := 7) (by decide) rfl t : ∀ t : Fin grid0.N, Pipeline.Window.flushOf grid0 true cc0_transform_5 t = true ↔ t.val % 8 = 7)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_grouped_ln (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _)

/-! ## The group of a tile -/

/-- The two conditions on a tile's word exclude each other, and one holds: the word is negative or it is not. -/
theorem cond1_iff (w : BitVec 32) : k0_cond1 w = 1#1 ↔ ¬k0_cond2 w = 1#1 := by
  have e : (0#32).sle w = !w.slt 0#32 := by
    by_cases h : w.toInt < 0 <;> simp [BitVec.sle, BitVec.slt, h] <;> omega
  have e1 : k0_cond1 w = Scalar.cmpi .ne (Scalar.extui (BitVec.ofBool (w.slt 0#32))) 0#32 := rfl
  have e2 : k0_cond2 w = Scalar.cmpi .ne (Scalar.extui (BitVec.ofBool ((0#32).sle w))) 0#32 := rfl
  rw [e1, e2, e]
  cases w.slt 0#32 <;> decide

/-- The word the body loads is the table's element at the tile's number. -/
theorem groupAt_eq (c : Dev nD) (i : grid0.Coords) : groupAt c i (tbl m 0) = (tbl m).atD 0 (k0_off1 i) := by
  have h : ∀ a, k0_off1 i a + 1 ≤ S36.size a := fun a => by
    have := k0_off1_inb i a
    have e : S1.size a = 1 := by fin_cases a; rfl
    omega
  refine Eq.trans ?_ (dif_pos h).symm
  exact congrArg (tbl m 0) (funext fun a => Fin.ext (by fin_cases a; rfl))

/-- The tile of point `t` has a group. -/
def Live (c : Dev nD) (t : Fin grid0.N) : Prop := k0_cond2 (groupAt c (grid0.coords t) (tbl m 0)) = 1#1

/-- Two points of one tile both have its group. -/
theorem Live_prev (c : Dev nD) (t k : Fin grid0.N) (h : t.val = k.val + 1) (h0 : ¬t.val % 8 = 0) (hl : Live m c t) : Live m c k := by
  have e : k0_off1 (grid0.coords t) = k0_off1 (grid0.coords k) := by
    have e0 : (grid0.coords t 0).val = t.val / 8 % 36 := Pipeline.Grid.coords_val t 0 (by decide) rfl
    have e1 : (grid0.coords k 0).val = k.val / 8 % 36 := Pipeline.Grid.coords_val k 0 (by decide) rfl
    unfold k0_off1
    rw [e0, e1, show t.val / 8 = k.val / 8 by omega]
  unfold Live at hl ⊢
  rw [groupAt_eq, e, ← groupAt_eq m c] at hl
  exact hl

theorem idle5_eq (hO : Ok m) (c : Dev nD) (t : Fin (cfgM m hO).N) : (cfgM m hO).idle 5 (grid0.coords t)
    = (!(k0_cond1 (groupAt c (grid0.coords t) (tbl m 0)) == 1#1) && !(k0_cond2 (groupAt c (grid0.coords t) (tbl m 0)) == 1#1 && k0_cond4 (grid0.coords t) == 1#1)) := by
  rw [groupAt_eq]; rfl

/-- The result's buffer is left alone at the points of a tile with a group but the last. -/
theorem idle5 (hO : Ok m) (c : Dev nD) (t : Fin (cfgM m hO).N) (hl : Live m c t) (h1 : ¬t.val % 8 = 7) :
    (cfgM m hO).idle 5 (grid0.coords t) = true := by
  have a : k0_cond1 (groupAt c (grid0.coords t) (tbl m 0)) ≠ 1#1 := fun h => (cond1_iff _).mp h hl
  have b : k0_cond4 (grid0.coords t) ≠ 1#1 := fun h => h1 ((hcond0_1 t).mp h)
  rw [idle5_eq m hO c t, beq_eq_false_iff_ne.mpr a, beq_eq_false_iff_ne.mpr b]
  simp
theorem live5 (hO : Ok m) (c : Dev nD) (t : Fin (cfgM m hO).N) (hl : Live m c t → t.val % 8 = 7) :
    (cfgM m hO).idle 5 (grid0.coords t) = false := by
  rw [idle5_eq m hO c t]
  by_cases h : Live m c t
  · have a : k0_cond2 (groupAt c (grid0.coords t) (tbl m 0)) = 1#1 := h
    have b : k0_cond4 (grid0.coords t) = 1#1 := (hcond0_1 t).mpr (hl h)
    rw [a, b]; simp
  · have a : k0_cond1 (groupAt c (grid0.coords t) (tbl m 0)) = 1#1 := (cond1_iff _).mpr h
    rw [a]; simp
theorem noFlush5 (hO : Ok m) (t : Fin (cfgM m hO).N) (h1 : ¬t.val % 8 = 7) : ((cfgM m hO).win 5).flush t = false :=
  Bool.eq_false_iff.mpr fun h => h1 ((flush0_5 (adm m hO) t).mp h)

/-! ## What the buffers hold after each point -/

/-- The two scratch buffers after point `n` of a tile with a group: the features as the products read them, and the sum of
    the tile's experts so far. -/
def held (hO : Ok m) (c : Dev nD) : (n : ℕ) → n < (cfgM m hO).N → Vec F S1024x1024 .bf16 × Vec F S1024x1024 .f32
  | 0, hn => (hidden (iblk m hO c 0 ⟨0, hn⟩), added (grid0.coords ⟨0, hn⟩) (groupAt c (grid0.coords ⟨0, hn⟩) (tbl m 0)) (iblk m hO c 0 ⟨0, hn⟩)
      (iblk m hO c 1 ⟨0, hn⟩) (iblk m hO c 2 ⟨0, hn⟩) (hidden (iblk m hO c 0 ⟨0, hn⟩)) (k0_pay5 (F := F)))
  | n + 1, hn => if (n + 1) % 8 = 0 then
      (hidden (iblk m hO c 0 ⟨n + 1, hn⟩), added (grid0.coords ⟨n + 1, hn⟩) (groupAt c (grid0.coords ⟨n + 1, hn⟩) (tbl m 0)) (iblk m hO c 0 ⟨n + 1, hn⟩)
        (iblk m hO c 1 ⟨n + 1, hn⟩) (iblk m hO c 2 ⟨n + 1, hn⟩) (hidden (iblk m hO c 0 ⟨n + 1, hn⟩)) (k0_pay5 (F := F)))
    else ((held hO c n (Nat.lt_of_succ_lt hn)).1, added (grid0.coords ⟨n + 1, hn⟩) (groupAt c (grid0.coords ⟨n + 1, hn⟩) (tbl m 0)) (iblk m hO c 0 ⟨n + 1, hn⟩)
        (iblk m hO c 1 ⟨n + 1, hn⟩) (iblk m hO c 2 ⟨n + 1, hn⟩) (held hO c n (Nat.lt_of_succ_lt hn)).1 (held hO c n (Nat.lt_of_succ_lt hn)).2)

theorem held_first (hO : Ok m) (c : Dev nD) (t : Fin (cfgM m hO).N) (h0 : t.val % 8 = 0) : held m hO c t.val t.isLt
    = (hidden (iblk m hO c 0 t), added (grid0.coords t) (groupAt c (grid0.coords t) (tbl m 0)) (iblk m hO c 0 t)
        (iblk m hO c 1 t) (iblk m hO c 2 t) (hidden (iblk m hO c 0 t)) (k0_pay5 (F := F))) := by
  obtain ⟨n, hn⟩ := t
  cases n with
  | zero => rfl
  | succ n => exact if_pos h0
theorem held_next (hO : Ok m) (c : Dev nD) (t k : Fin (cfgM m hO).N) (h : t.val = k.val + 1) (h0 : ¬t.val % 8 = 0) : held m hO c t.val t.isLt
    = ((held m hO c k.val k.isLt).1, added (grid0.coords t) (groupAt c (grid0.coords t) (tbl m 0)) (iblk m hO c 0 t)
        (iblk m hO c 1 t) (iblk m hO c 2 t) (held m hO c k.val k.isLt).1 (held m hO c k.val k.isLt).2) := by
  obtain ⟨n, hn⟩ := t; obtain ⟨k, hk⟩ := k
  dsimp only at h; subst h
  exact if_neg h0

open Classical in
/-- The result's block after point `t`: the normed sum in a tile with a group, zero in one with none. -/
def block (hO : Ok m) (c : Dev nD) (t : Fin (cfgM m hO).N) : Vec F S1024x1024 .f32 :=
  if Live m c t then normed (iblk m hO c 0 t) (held m hO c t.val t.isLt).2 (iblk m hO c 3 t) (iblk m hO c 4 t) else k0_pay1 (F := F)

/-- The scratch buffers' contents before point `n` are the named ones, where the point before is of a tile with a group. -/
def Named (hO : Ok m) (c : Dev nD) (n : ℕ) (d0 : Vec F S1024x1024 .bf16) (d1 : Vec F S1024x1024 .f32) : Prop :=
  ∀ k : Fin (cfgM m hO).N, n = k.val + 1 → Live m c k → d0 = (held m hO c k.val k.isLt).1 ∧ d1 = (held m hO c k.val k.isLt).2

/-- Before point `n`: the scratch buffers at contents `Named`, the generator's register, the table's half. -/
def PhiS (hO : Ok m) (c : Dev nD) (n : ℕ) : sProp 𝕄 :=
  iprop(iprop(iprop(∃ d0, ∃ d1, ⌜Named m hO c n d0 d1⌝ ∗ owns (c : Thread nD τ) scM0_0 fullShare d0 ∗ owns (c : Thread nD τ) scM0_1 fullShare d1) ∗ (∃ r, prngReg c r)) ∗ Pipeline.ΦT pre0 (tbl m) c)

/-! ## The pipeline's proof data -/

/-- The proof data of the one pipeline on core `c`: the arrays as the region finds them (`V`); after the body at
    point `t` each input's buffer at its block and the result's at `block`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => block m hO c t
  Φ t := PhiS m hO c t.val
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val := by
  dsimp only [dats]; rfl

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = block m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 3200000 in
/-- The body at expert 0 of a tile with a group. -/
theorem sound_A (hO : Ok m) (c : Dev nD) (t : Fin (cfgM m hO).N) (hl : Live m c t) (h0 : t.val % 8 = 0) (h1 : ¬t.val % 8 = 7) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) from rfl, PhiS_castSucc m hO c t]
  unfold PhiS
  rw [PhiT0_eq]
  have l0 : (dats m hO 0 c).leavesExact 0 t = owns (c : Thread nD τ) (ms0_0 m hO t) fullShare (iblk m hO c 0 t) := by
    unfold Dat.leavesExact; rw [liveAt0_0 m hO t]; exact congrArg (owns (c : Thread nD τ) (ms0_0 m hO t) fullShare) (after0_0 m hO c t)
  have l1 : (dats m hO 0 c).leavesExact 1 t = owns (c : Thread nD τ) (ms0_1 m hO t) fullShare (iblk m hO c 1 t) := by
    unfold Dat.leavesExact; rw [liveAt0_1 m hO t]; exact congrArg (owns (c : Thread nD τ) (ms0_1 m hO t) fullShare) (after0_1 m hO c t)
  have l2 : (dats m hO 0 c).leavesExact 2 t = owns (c : Thread nD τ) (ms0_2 m hO t) fullShare (iblk m hO c 2 t) := by
    unfold Dat.leavesExact; rw [liveAt0_2 m hO t]; exact congrArg (owns (c : Thread nD τ) (ms0_2 m hO t) fullShare) (after0_2 m hO c t)
  have l3 : (dats m hO 0 c).leavesExact 3 t = owns (c : Thread nD τ) (ms0_3 m hO t) fullShare (iblk m hO c 3 t) := by
    unfold Dat.leavesExact; rw [liveAt0_3 m hO t]; exact congrArg (owns (c : Thread nD τ) (ms0_3 m hO t) fullShare) (after0_3 m hO c t)
  have l4 : (dats m hO 0 c).leavesExact 4 t = owns (c : Thread nD τ) (ms0_4 m hO t) fullShare (iblk m hO c 4 t) := by
    unfold Dat.leavesExact; rw [liveAt0_4 m hO t]; exact congrArg (owns (c : Thread nD τ) (ms0_4 m hO t) fullShare) (after0_4 m hO c t)
  rw [l0, l1, l2, l3, l4]
  rw [Dat.leavesExact_idle (dats m hO 0 c) 5 t (idle5 m hO c t hl h1) (noFlush5 m hO t h1)]
  iintro ⟨⟨⟨⟨%d0, %d1, %hd, HS0, HS1⟩, Hg⟩, HT0⟩, Ho, ⟨%e0, H0⟩, ⟨%e1, H1⟩, ⟨%e2, H2⟩, ⟨%e3, H3⟩, ⟨%e4, H4⟩, ⟨%e5, H5⟩⟩
  iapply ((kernelRun0_A c (grid0.coords t) _ (hs0_0 m hO t) _ (hs0_1 m hO t) _ (hs0_2 m hO t) _ (hs0_3 m hO t) _ (hs0_4 m hO t) _ (hs0_5 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (tbl m 0) (fun h => (cond1_iff _).mp h hl) hl).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  isplitl [HT0]; · iexact HT0
  iintro ⟨H0, H1, H2, H3, H4, H5, ⟨%es0, HS0⟩, ⟨%es1, HS1⟩, HT0⟩
  isplitl [HS0 HS1 Hg HT0]
  · isplitl [HS0 HS1 Hg]
    · isplitl [HS0 HS1]
      · iexists (held m hO c t.val t.isLt).1; iexists (held m hO c t.val t.isLt).2; isplitr
        · ipureintro; exact fun k hk _ => by obtain rfl : t = k := Fin.ext (Nat.succ.inj hk); exact ⟨rfl, rfl⟩
        rw [held_first m hO c t h0]
        isplitl [HS0]
        · unfold owns; iexists _; isplitr
          swap; · iexact HS0
          ipureintro; exact (View.read_writes_of_cover _ _ _ _ _ (leftA_9_cover _ _ _ _ _ _ _ _ _ _ _ _ _ _ _ _ _ _ _ _ _ _ _ _ _ _ _ _)).trans (leftA_9_eq _ _ _ _ _ _ _ _ _ _ _ _ _ _ _ _ _ _ _ _ _ _ _ _ _ _ _ _)
        unfold owns; iexists _; isplitr
        swap; · iexact HS1
        ipureintro; exact (View.read_writes_of_cover _ _ _ _ _ (leftA_10_cover _ _ _ _ _ _ _ _ _ _ _ _ _ _ _ _ _ _ _ _ _ _ _ _ _ _ _ _)).trans (leftA_10_eq _ _ _ _ _ _ _ _ _ _ _ _ _ _ _ _ _ _ _ _ _ _ _ _ _ _ _ _)
      iexact Hg
    iexact HT0
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 3200000 in
/-- The body at experts 1 to 6 of a tile with a group. -/
theorem sound_B (hO : Ok m) (c : Dev nD) (t : Fin (cfgM m hO).N) (hl : Live m c t) (h0 : ¬t.val % 8 = 0) (h1 : ¬t.val % 8 = 7) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) from rfl, PhiS_castSucc m hO c t]
  unfold PhiS
  rw [PhiT0_eq]
  have l0 : (dats m hO 0 c).leavesExact 0 t = owns (c : Thread nD τ) (ms0_0 m hO t) fullShare (iblk m hO c 0 t) := by
    unfold Dat.leavesExact; rw [liveAt0_0 m hO t]; exact congrArg (owns (c : Thread nD τ) (ms0_0 m hO t) fullShare) (after0_0 m hO c t)
  have l1 : (dats m hO 0 c).leavesExact 1 t = owns (c : Thread nD τ) (ms0_1 m hO t) fullShare (iblk m hO c 1 t) := by
    unfold Dat.leavesExact; rw [liveAt0_1 m hO t]; exact congrArg (owns (c : Thread nD τ) (ms0_1 m hO t) fullShare) (after0_1 m hO c t)
  have l2 : (dats m hO 0 c).leavesExact 2 t = owns (c : Thread nD τ) (ms0_2 m hO t) fullShare (iblk m hO c 2 t) := by
    unfold Dat.leavesExact; rw [liveAt0_2 m hO t]; exact congrArg (owns (c : Thread nD τ) (ms0_2 m hO t) fullShare) (after0_2 m hO c t)
  have l3 : (dats m hO 0 c).leavesExact 3 t = owns (c : Thread nD τ) (ms0_3 m hO t) fullShare (iblk m hO c 3 t) := by
    unfold Dat.leavesExact; rw [liveAt0_3 m hO t]; exact congrArg (owns (c : Thread nD τ) (ms0_3 m hO t) fullShare) (after0_3 m hO c t)
  have l4 : (dats m hO 0 c).leavesExact 4 t = owns (c : Thread nD τ) (ms0_4 m hO t) fullShare (iblk m hO c 4 t) := by
    unfold Dat.leavesExact; rw [liveAt0_4 m hO t]; exact congrArg (owns (c : Thread nD τ) (ms0_4 m hO t) fullShare) (after0_4 m hO c t)
  rw [l0, l1, l2, l3, l4]
  obtain ⟨k, hk⟩ : ∃ k : Fin (cfgM m hO).N, t.val = k.val + 1 := ⟨⟨t.val - 1, by omega⟩, by simp only; omega⟩
  rw [Dat.leavesExact_idle (dats m hO 0 c) 5 t (idle5 m hO c t hl h1) (noFlush5 m hO t h1)]
  iintro ⟨⟨⟨⟨%d0, %d1, %hd, HS0, HS1⟩, Hg⟩, HT0⟩, Ho, ⟨%e0, H0⟩, ⟨%e1, H1⟩, ⟨%e2, H2⟩, ⟨%e3, H3⟩, ⟨%e4, H4⟩, ⟨%e5, H5⟩⟩
  obtain ⟨rfl, rfl⟩ := hd k hk (Live_prev m c t k hk h0 hl)
  iapply ((kernelRun0_B c (grid0.coords t) _ (hs0_0 m hO t) _ (hs0_1 m hO t) _ (hs0_2 m hO t) _ (hs0_3 m hO t) _ (hs0_4 m hO t) _ (hs0_5 m hO t) scM0_0 (Memref.isWhole_whole _) scM0_1 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (tbl m 0) (fun h => (cond1_iff _).mp h hl) hl _ _).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HT0]; · iexact HT0
  iintro ⟨H0, H1, H2, H3, H4, H5, HS0, ⟨%es1, HS1⟩, HT0⟩
  isplitl [HS0 HS1 Hg HT0]
  · isplitl [HS0 HS1 Hg]
    · isplitl [HS0 HS1]
      · iexists (held m hO c t.val t.isLt).1; iexists (held m hO c t.val t.isLt).2; isplitr
        · ipureintro; exact fun k hk _ => by obtain rfl : t = k := Fin.ext (Nat.succ.inj hk); exact ⟨rfl, rfl⟩
        rw [held_next m hO c t k hk h0]
        isplitl [HS0]; · iexact HS0
        unfold owns; iexists _; isplitr
        swap; · iexact HS1
        ipureintro; exact (View.read_writes_of_cover _ _ _ _ _ (leftB_10_cover _ _ _ _ _ _ _ _ _ _ _ _ _ _ _ _ _ _ _ _ _ _ _ _ _ _ _ _ _ _)).trans (leftB_10_eq _ _ _ _ _ _ _ _ _ _ _ _ _ _ _ _ _ _ _ _ _ _ _ _ _ _ _ _ _ _)
      iexact Hg
    iexact HT0
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 3200000 in
/-- The body at expert 7 of a tile with a group. -/
theorem sound_C (hO : Ok m) (c : Dev nD) (t : Fin (cfgM m hO).N) (hl : Live m c t) (h0 : ¬t.val % 8 = 0) (h1 : t.val % 8 = 7) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) from rfl, PhiS_castSucc m hO c t]
  unfold PhiS
  rw [PhiT0_eq]
  have l0 : (dats m hO 0 c).leavesExact 0 t = owns (c : Thread nD τ) (ms0_0 m hO t) fullShare (iblk m hO c 0 t) := by
    unfold Dat.leavesExact; rw [liveAt0_0 m hO t]; exact congrArg (owns (c : Thread nD τ) (ms0_0 m hO t) fullShare) (after0_0 m hO c t)
  have l1 : (dats m hO 0 c).leavesExact 1 t = owns (c : Thread nD τ) (ms0_1 m hO t) fullShare (iblk m hO c 1 t) := by
    unfold Dat.leavesExact; rw [liveAt0_1 m hO t]; exact congrArg (owns (c : Thread nD τ) (ms0_1 m hO t) fullShare) (after0_1 m hO c t)
  have l2 : (dats m hO 0 c).leavesExact 2 t = owns (c : Thread nD τ) (ms0_2 m hO t) fullShare (iblk m hO c 2 t) := by
    unfold Dat.leavesExact; rw [liveAt0_2 m hO t]; exact congrArg (owns (c : Thread nD τ) (ms0_2 m hO t) fullShare) (after0_2 m hO c t)
  have l3 : (dats m hO 0 c).leavesExact 3 t = owns (c : Thread nD τ) (ms0_3 m hO t) fullShare (iblk m hO c 3 t) := by
    unfold Dat.leavesExact; rw [liveAt0_3 m hO t]; exact congrArg (owns (c : Thread nD τ) (ms0_3 m hO t) fullShare) (after0_3 m hO c t)
  have l4 : (dats m hO 0 c).leavesExact 4 t = owns (c : Thread nD τ) (ms0_4 m hO t) fullShare (iblk m hO c 4 t) := by
    unfold Dat.leavesExact; rw [liveAt0_4 m hO t]; exact congrArg (owns (c : Thread nD τ) (ms0_4 m hO t) fullShare) (after0_4 m hO c t)
  rw [l0, l1, l2, l3, l4]
  obtain ⟨k, hk⟩ : ∃ k : Fin (cfgM m hO).N, t.val = k.val + 1 := ⟨⟨t.val - 1, by omega⟩, by simp only; omega⟩
  rw [show (dats m hO 0 c).leavesExact 5 t = owns (c : Thread nD τ) (ms0_5 m hO t) fullShare (block m hO c t) from by
    unfold Dat.leavesExact; rw [live5 m hO c t (fun _ => h1)]; exact congrArg (owns (c : Thread nD τ) (ms0_5 m hO t) fullShare) (after0_5 m hO c t)]
  rw [block, if_pos hl]
  iintro ⟨⟨⟨⟨%d0, %d1, %hd, HS0, HS1⟩, Hg⟩, HT0⟩, Ho, ⟨%e0, H0⟩, ⟨%e1, H1⟩, ⟨%e2, H2⟩, ⟨%e3, H3⟩, ⟨%e4, H4⟩, ⟨%e5, H5⟩⟩
  obtain ⟨rfl, rfl⟩ := hd k hk (Live_prev m c t k hk h0 hl)
  iapply ((kernelRun0_C c (grid0.coords t) _ (hs0_0 m hO t) _ (hs0_1 m hO t) _ (hs0_2 m hO t) _ (hs0_3 m hO t) _ (hs0_4 m hO t) _ (hs0_5 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (tbl m 0) (fun h => (cond1_iff _).mp h hl) hl _ _).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  iintro ⟨H0, H1, H2, H3, H4, ⟨%f5, H5⟩, HS0, ⟨%es1, HS1⟩, HT0⟩
  isplitl [HS0 HS1 Hg HT0]
  · isplitl [HS0 HS1 Hg]
    · isplitl [HS0 HS1]
      · iexists (held m hO c t.val t.isLt).1; iexists (held m hO c t.val t.isLt).2; isplitr
        · ipureintro; exact fun k hk _ => by obtain rfl : t = k := Fin.ext (Nat.succ.inj hk); exact ⟨rfl, rfl⟩
        rw [held_next m hO c t k hk h0]
        isplitl [HS0]; · iexact HS0
        unfold owns; iexists _; isplitr
        swap; · iexact HS1
        ipureintro; exact (View.read_writes_of_cover _ _ _ _ _ (leftC_10_cover _ _ _ _ _ _ _ _ _ _ _ _ _ _ _ _ _ _ _ _ _ _ _ _ _ _ _ _ _ _)).trans (leftC_10_eq _ _ _ _ _ _ _ _ _ _ _ _ _ _ _ _ _ _ _ _ _ _ _ _ _ _ _ _ _ _)
      iexact Hg
    iexact HT0
  isplitl [Ho]; · iexact Ho
  isplitl [H0]; · iexact H0
  isplitl [H1]; · iexact H1
  isplitl [H2]; · iexact H2
  isplitl [H3]; · iexact H3
  isplitl [H4]; · iexact H4
  rw [held_next m hO c t k hk h0]
  unfold owns; iexists _; isplitr
  swap; · iexact H5
  ipureintro; exact (View.read_writes_of_cover _ _ _ _ _ (leftC_8_cover _ _ _ _ _ _ _ _ _ _ _ _ _ _ _ _ _ _ _ _ _ _ _ _ _ _ _ _ _ _)).trans (leftC_8_eq _ _ _ _ _ _ _ _ _ _ _ _ _ _ _ _ _ _ _ _ _ _ _ _ _ _ _ _ _ _)

set_option maxHeartbeats 3200000 in
/-- The body at a tile of no group. -/
theorem sound_D (hO : Ok m) (c : Dev nD) (t : Fin (cfgM m hO).N) (hl : ¬Live m c t) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) from rfl, PhiS_castSucc m hO c t]
  unfold PhiS
  rw [PhiT0_eq]
  have l0 : (dats m hO 0 c).leavesExact 0 t = owns (c : Thread nD τ) (ms0_0 m hO t) fullShare (iblk m hO c 0 t) := by
    unfold Dat.leavesExact; rw [liveAt0_0 m hO t]; exact congrArg (owns (c : Thread nD τ) (ms0_0 m hO t) fullShare) (after0_0 m hO c t)
  have l1 : (dats m hO 0 c).leavesExact 1 t = owns (c : Thread nD τ) (ms0_1 m hO t) fullShare (iblk m hO c 1 t) := by
    unfold Dat.leavesExact; rw [liveAt0_1 m hO t]; exact congrArg (owns (c : Thread nD τ) (ms0_1 m hO t) fullShare) (after0_1 m hO c t)
  have l2 : (dats m hO 0 c).leavesExact 2 t = owns (c : Thread nD τ) (ms0_2 m hO t) fullShare (iblk m hO c 2 t) := by
    unfold Dat.leavesExact; rw [liveAt0_2 m hO t]; exact congrArg (owns (c : Thread nD τ) (ms0_2 m hO t) fullShare) (after0_2 m hO c t)
  have l3 : (dats m hO 0 c).leavesExact 3 t = owns (c : Thread nD τ) (ms0_3 m hO t) fullShare (iblk m hO c 3 t) := by
    unfold Dat.leavesExact; rw [liveAt0_3 m hO t]; exact congrArg (owns (c : Thread nD τ) (ms0_3 m hO t) fullShare) (after0_3 m hO c t)
  have l4 : (dats m hO 0 c).leavesExact 4 t = owns (c : Thread nD τ) (ms0_4 m hO t) fullShare (iblk m hO c 4 t) := by
    unfold Dat.leavesExact; rw [liveAt0_4 m hO t]; exact congrArg (owns (c : Thread nD τ) (ms0_4 m hO t) fullShare) (after0_4 m hO c t)
  rw [l0, l1, l2, l3, l4]
  rw [show (dats m hO 0 c).leavesExact 5 t = owns (c : Thread nD τ) (ms0_5 m hO t) fullShare (block m hO c t) from by
    unfold Dat.leavesExact; rw [live5 m hO c t (fun h => absurd h hl)]; exact congrArg (owns (c : Thread nD τ) (ms0_5 m hO t) fullShare) (after0_5 m hO c t)]
  rw [block, if_neg hl]
  iintro ⟨⟨⟨⟨%d0, %d1, %hd, HS0, HS1⟩, Hg⟩, HT0⟩, Ho, ⟨%e0, H0⟩, ⟨%e1, H1⟩, ⟨%e2, H2⟩, ⟨%e3, H3⟩, ⟨%e4, H4⟩, ⟨%e5, H5⟩⟩
  iapply ((kernelRun0_D c (grid0.coords t) _ (hs0_0 m hO t) _ (hs0_1 m hO t) _ (hs0_2 m hO t) _ (hs0_3 m hO t) _ (hs0_4 m hO t) _ (hs0_5 m hO t) scM0_0 (Memref.isWhole_whole _) scM0_1 (Memref.isWhole_whole _)  (iblk m hO c 0 t) (iblk m hO c 1 t) (iblk m hO c 2 t) (iblk m hO c 3 t) (iblk m hO c 4 t) (tbl m 0) ((cond1_iff _).mpr hl) hl d0 d1).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  iintro ⟨H0, H1, H2, H3, H4, ⟨%f5, H5⟩, HS0, HS1, HT0⟩
  isplitl [HS0 HS1 Hg HT0]
  · isplitl [HS0 HS1 Hg]
    · isplitl [HS0 HS1]
      · iexists d0; iexists d1; isplitr
        · ipureintro; exact fun k hk hk' => absurd (Fin.ext (Nat.succ.inj hk) ▸ hk' : Live m c t) hl
        isplitl [HS0]; · iexact HS0
        iexact HS1
      iexact Hg
    iexact HT0
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact (View.read_writes_of_cover _ _ _ _ _ (leftD_8_cover _ _ _ _ _ _ _ _ _ _ _ _ _ _ _ _ _ _ _ _ _ _ _ _ _ _ _ _)).trans (leftD_8_eq _ _ _ _ _ _ _ _ _ _ _ _ _ _ _ _ _ _ _ _ _ _ _ _ _ _ _ _)

/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  by_cases hl : Live m c t
  · by_cases h0 : t.val % 8 = 0
    · exact sound_A m hO c t hl h0 (by omega)
    · by_cases h1 : t.val % 8 = 7
      · exact sound_C m hO c t hl h0 h1
      · exact sound_B m hO c t hl h0 h1
  · exact sound_D m hO c t hl

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 from rfl, PhiA0_eq]
  unfold PhiS
  iintro ⟨⟨⟨⟨%d0, HS0⟩, ⟨%d1, HS1⟩⟩, Hg⟩, HT⟩
  isplitl [HS0 HS1 Hg]
  · isplitl [HS0 HS1]
    · iexists d0; iexists d1; isplitr
      · ipureintro; exact fun k hk => absurd hk (Nat.succ_ne_zero _).symm
      isplitl [HS0]; · iexact HS0
      iexact HS1
    iexact Hg
  iexact HT

/-- The invariant gives back what the launch handed over. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N from rfl, PhiA0_eq]
  unfold PhiS
  iintro ⟨⟨⟨%d0, %d1, -, HS0, HS1⟩, Hg⟩, -⟩
  isplitl [HS0 HS1]
  · isplitl [HS0]
    · iexists _; iexact HS0
    iexists _; iexact HS1
  iexact Hg

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame, under the side condition of the table. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.GroupedMoeIdeal.Tiles

end
-- ==== Proof.Grouped.Groups.lean ====
/-
  The tiles' group words: what the precondition says of them, the slab of expert weights each grid point takes by them,
  and that every slab lies inside its array.
-/
module

public import proofs.«01_k».proof.Proof.Grouped.Run
public import proofs.«01_k».proof.Proof.Gen.Pre_groups_exist
public import Idealize.ShloMosaic.Lib.ReduceAll
public import Idealize.ShloMosaic.Lib.PairWhole
public import Idealize.ShloMosaic.Lib.WordCmp
public import Idealize.ShloMosaic.Lib.WordArith
public import Idealize.ShloMosaic.Lib.Pointwise

@[expose] public section

set_option maxRecDepth 16384

noncomputable section

open Idealize.ShloMosaic Idealize.ShloMosaic.TcCoe Idealize.SL.Sem

namespace Cert.GroupedMoeIdeal.Tiles

open Cert.GroupedMoeIdeal Cert.GroupedMoeIdeal.Gen

variable {F : FTy → Type} [FloatOps F]
variable (m : (ℓ : Loc nD τ sig) → Buf (Elt F) ℓ)

/-- The group word of tile `i`. -/
def word (c : Dev nD) (i : Fin 36) : BitVec 32 := (m ((c : Thread nD τ).loc main_arg1) : IVec S36 32) (ix1 i)

/-- Every tile's group, if it has one, is one of the four. -/
def GroupsExist : Prop := ∀ (c : Dev nD) (i : Fin 36), (word m c i).toInt < 4

/-- The precondition says that. -/
theorem groupsExist_of_pre (x0 : FVec F S36864x1152 .f32) (x1 : IVec S36 32) (x2 : FVec F S1x32x1024x512 .f32)
    (x3 : FVec F S1x32x256x1024 .f32) (x4 x5 : FVec F S1x1024 .f32)
    (h : Cert.Pre_groups_exist.fn (F := F) x0 x1 x2 x3 x4 x5 = fun _ => 1#1) (i : Fin 36) : (x1 (ix1 i)).toInt < 4 := by
  have e := congrFun h (fun a => a.elim0)
  exact IntOp.cmpi_slt.1 (Host.reduce_andi_all _ _ _ _ _ e (ix1 i))

/-- The slab number of group word `w` and expert `e` of the group. -/
theorem slab_toNat (w : BitVec 32) (hw : w.toInt < 4) (e : ℕ) (he : e < 8) :
    (Scalar.addi (Scalar.muli (Scalar.maxsi w 0#32) 8#32) (BitVec.ofNat 32 e)).toNat = w.toInt.toNat * 8 + e := by
  have hm : (Scalar.maxsi w 0#32).toNat = w.toInt.toNat := by
    have e := BitVec.toInt_eq_toNat_cond w
    have hx := w.isLt
    have h0 : (0#32 : BitVec 32).toInt = 0 := by decide
    show (IntOp.maxsi w 0#32).toNat = _
    unfold IntOp.maxsi
    by_cases h : (0#32 : BitVec 32).slt w = true
    · rw [if_pos h]
      rw [BitVec.slt_iff_toInt_lt, h0] at h
      omega
    · rw [if_neg h]
      rw [BitVec.slt_iff_toInt_lt, h0] at h
      show 0 = w.toInt.toNat
      omega
  have hlt : w.toInt.toNat < 4 := by omega
  show ((Scalar.maxsi w 0#32) * 8#32 + BitVec.ofNat 32 e).toNat = _
  rw [BitVec.toNat_add, BitVec.toNat_mul, hm, BitVec.toNat_ofNat, BitVec.toNat_ofNat]
  omega

theorem at_word (i : grid0.Coords) :
    (tbl m).at 0 (Rect.unit (s := S36) (k0_off1 i) S1.size (k0_off1_inb i)) numel1_S1 = word m 0 (i 0) := by
  have hv : (BitVec.ofNat 32 (i 0).val).toNat = (i 0).val :=
    Nat.mod_eq_of_lt (lt_trans (i 0).isLt (by decide))
  refine Eq.trans ?_ (congrFun (V_main_arg1 m 0) (ix1 (i 0)))
  exact congrArg (V m 0 main_arg1 : IVec S36 32) (funext fun a => Fin.ext (by fin_cases a; exact hv))

theorem groupAt_word (c : Dev nD) (i : grid0.Coords) : groupAt c i (tbl m 0) = word m 0 (i 0) := by
  exact at_word m i

theorem index1 (h : GroupsExist m) (i : grid0.Coords) : cc0_transform_1 k0_off1_inb numel1_S1 (tbl m) i
    = ![(word m 0 (i 0)).toInt.toNat * 8 + (i 1).val, 0, 0] := by
  have e : cc0_transform_1 k0_off1_inb numel1_S1 (tbl m) i
      = ![(Scalar.addi (Scalar.muli (Scalar.maxsi ((tbl m).at 0 (Rect.unit (s := S36) (k0_off1 i) S1.size (k0_off1_inb i)) numel1_S1) 0#32) 8#32)
        (BitVec.ofNat 32 (i 1).val)).toNat, 0, 0] := rfl
  rw [e, at_word, slab_toNat _ (h 0 (i 0)) _ (i 1).isLt]

theorem index2 (h : GroupsExist m) (i : grid0.Coords) : cc0_transform_2 k0_off1_inb numel1_S1 (tbl m) i
    = ![(word m 0 (i 0)).toInt.toNat * 8 + (i 1).val, 0, 0] := index1 m h i

theorem ok_of_groups (h : GroupsExist m) : Ok m := by
  have hb : ∀ i : grid0.Coords, (word m 0 (i 0)).toInt.toNat * 8 + (i 1).val < 32 := fun i => by
    have := h 0 (i 0)
    have h1 : (i 1).val < 8 := (i 1).isLt
    omega
  refine ⟨fun i => ⟨?_, Or.inr ?_⟩, fun i => ⟨?_, Or.inr ?_⟩⟩
  · rw [index1 m h]
    have := hb i
    intro a
    fin_cases a
    · simp; omega
    · simp
    · simp
  · exact (Rect.WholeRows.intro (by decide) rfl rfl rfl).wholeWords _
  · rw [index2 m h]
    have := hb i
    intro a
    fin_cases a
    · simp; omega
    · simp
    · simp
  · exact (Rect.WholeRows.intro (by decide) rfl rfl rfl).wholeWords _

end Cert.GroupedMoeIdeal.Tiles

end
-- ==== Proof.Grouped.Value.lean ====
/-
  The grouped expert layer over the extended reals: a tile's row is normed after the residual and its group's eight
  gated experts; a tile without a group is zero. The kernel adds the experts one grid point at a time; the reference
  adds all thirty-two with the other groups' gates at zero.
-/
module

public import proofs.«01_k».proof.Proof.Grouped.Groups
public import proofs.«01_k».proof.Proof.LayerMath
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GroupedMoeIdeal.Tiles

open Cert.GroupedMoeIdeal Cert.GroupedMoeIdeal.Gen Cert.LayerMath

variable (m : (ℓ : Loc nD τ sig) → Buf (Elt Ideal) ℓ)

/-- Row `r`'s gate of expert `e`: a row holds its features, then the thirty-two gates. -/
abbrev gate (x : FVec Ideal S36864x1152 .f32) (r : Fin 36864) (e : Fin 32) : EReal :=
  x (ix2 r ⟨1024 + e.val, by omega⟩)

/-- The gated expert `e` of row `r`, at column `j`. -/
def term (x : FVec Ideal S36864x1152 .f32) (wu : FVec Ideal S1x32x1024x512 .f32)
    (wd : FVec Ideal S1x32x256x1024 .f32) (e : Fin 32) (r : Fin 36864) (j : Fin 1024) : EReal :=
  gate x r e * expert (fun d => x (ix2 r ⟨d.val, by omega⟩)) (fun d q => wu (ix4 0 e d q)) (fun k l => wd (ix4 0 e k l)) j

/-- Expert `k` of the eight of group word `g`. -/
abbrev member (g : BitVec 32) (h : g.toInt < 4) (k : Fin 8) : Fin 32 := ⟨g.toInt.toNat * 8 + k.val, by omega⟩

/-- The sum over the group's experts. -/
def groupSum (x : FVec Ideal S36864x1152 .f32) (wu : FVec Ideal S1x32x1024x512 .f32) (wd : FVec Ideal S1x32x256x1024 .f32)
    (g : BitVec 32) (h : g.toInt < 4) (r : Fin 36864) (j : Fin 1024) : EReal :=
  ∑ k : Fin 8, term x wu wd (member g h k) r j

/-- The tile of row `r`. -/
abbrev tileOf (r : Fin 36864) : Fin 36 := ⟨r.val / 1024, by omega⟩

/-- The layer: the group's experts' sum, the residual, the normalisation; zero where there is no group. -/
def layer (x : FVec Ideal S36864x1152 .f32) (g : IVec S36 32) (hg : ∀ i : Fin 36, (g (ix1 i)).toInt < 4)
    (wu : FVec Ideal S1x32x1024x512 .f32) (wd : FVec Ideal S1x32x256x1024 .f32) (gain shift : FVec Ideal S1x1024 .f32) :
    FVec Ideal S36864x1024 .f32 :=
  fun i => if 0 ≤ (g (ix1 (tileOf (i 0)))).toInt then
    layerNorm (fun j => alpha * x (ix2 (i 0) ⟨j.val, by omega⟩) + groupSum x wu wd (g (ix1 (tileOf (i 0)))) (hg _) (i 0) j)
      (fun j => gain (ix2 0 j)) (fun j => shift (ix2 0 j)) (i 1)
  else 0

theorem layer_of_group (x : FVec Ideal S36864x1152 .f32) (g : IVec S36 32) (hg : ∀ i : Fin 36, (g (ix1 i)).toInt < 4)
    (wu : FVec Ideal S1x32x1024x512 .f32) (wd : FVec Ideal S1x32x256x1024 .f32) (gain shift : FVec Ideal S1x1024 .f32)
    (r : Fin 36864) (j : Fin 1024) (i : Fin 36) (hi : tileOf r = i) (hl : 0 ≤ (g (ix1 i)).toInt) :
    layer x g hg wu wd gain shift (ix2 r j)
      = layerNorm (fun j => alpha * x (ix2 r ⟨j.val, by omega⟩) + groupSum x wu wd (g (ix1 i)) (hg i) r j)
        (fun j => gain (ix2 0 j)) (fun j => shift (ix2 0 j)) j := by
  subst hi
  exact if_pos hl

theorem layer_of_none (x : FVec Ideal S36864x1152 .f32) (g : IVec S36 32) (hg : ∀ i : Fin 36, (g (ix1 i)).toInt < 4)
    (wu : FVec Ideal S1x32x1024x512 .f32) (wd : FVec Ideal S1x32x256x1024 .f32) (gain shift : FVec Ideal S1x1024 .f32)
    (r : Fin 36864) (j : Fin 1024) (i : Fin 36) (hi : tileOf r = i) (hl : ¬0 ≤ (g (ix1 i)).toInt) :
    layer x g hg wu wd gain shift (ix2 r j) = 0 := by
  subst hi
  exact if_neg hl

theorem features_apply (x : FVec Ideal S1024x1152 .f32) (r d : Fin 1024) :
    features (F := Ideal) x (ix2 r d) = x (ix2 r ⟨d.val, by omega⟩) :=
  congrArg x (by
    funext a
    fin_cases a
    · exact Fin.ext (show 0 + 1 * r.val = r.val by omega)
    · exact Fin.ext (show 0 + 1 * d.val = d.val by omega))

theorem record_apply (x : FVec Ideal S1024x1152 .f32) (r : Fin 1024) (d : Fin 128) :
    record (F := Ideal) x (ix2 r d) = x (ix2 r ⟨1024 + d.val, by omega⟩) :=
  congrArg x (by
    funext a
    fin_cases a
    · exact Fin.ext (show 0 + 1 * r.val = r.val by omega)
    · exact Fin.ext (show 1024 + 1 * d.val = 1024 + d.val by omega))

theorem hidden_apply (x : FVec Ideal S1024x1152 .f32) (r d : Fin 1024) :
    hidden (F := Ideal) x (ix2 r d) = x (ix2 r ⟨d.val, by omega⟩) := by
  refine Eq.trans ?_ (features_apply x r d)
  unfold hidden
  pointwise [k0_pay4]

theorem zero_apply (j : S1024x1024.Idx) : k0_pay5 (F := Ideal) j = 0 := by pointwise [k0_pay5]

theorem none_apply (j : S1024x1024.Idx) : k0_pay1 (F := Ideal) j = 0 := by pointwise [k0_pay1]

/-- One step of the running sum. -/
theorem added_apply (i : grid0.Coords) (g : BitVec 32) (x : FVec Ideal S1024x1152 .f32) (wu : FVec Ideal S1x1024x512 .bf16)
    (wd : FVec Ideal S1x256x1024 .bf16) (h : FVec Ideal S1024x1024 .bf16) (y : FVec Ideal S1024x1024 .f32)
    (e : Fin 32) (he : Scalar.addi (Scalar.muli g 8#32) (BitVec.ofNat 32 (i 1).val) = BitVec.ofNat 32 e.val) (r j : Fin 1024) :
    added (F := Ideal) i g x wu wd h y (ix2 r j) = y (ix2 r j) + x (ix2 r ⟨1024 + e.val, by omega⟩)
      * expert (fun d => h (ix2 r d)) (fun d q => wu (ix3 0 d q)) (fun k l => wd (ix3 0 k l)) j := by
  unfold added
  pointwise [k0_pay2, k0_pay6]
  rw [he]
  have hs := sum_select_lane (by norm_num) (fun d : Fin 128 => record (F := Ideal) x (ix2 r d)) ⟨e.val, by omega⟩
  dsimp only at hs
  rw [hs, record_apply]
  simp only [zero_sub]
  rfl

theorem normed_apply (x : FVec Ideal S1024x1152 .f32) (y : FVec Ideal S1024x1024 .f32) (g b : FVec Ideal S1x1024 .f32)
    (r j : Fin 1024) : normed (F := Ideal) x y g b (ix2 r j)
      = layerNorm (fun k => alpha * x (ix2 r ⟨k.val, by omega⟩) + y (ix2 r k)) (fun k => g (ix2 0 k)) (fun k => b (ix2 0 k)) j := by
  unfold normed
  simp only [← features_apply]
  generalize features (F := Ideal) x = v
  pointwise [k0_pay3]
  rfl

theorem up (c : Dev nD) (i : S32x1024x512.Idx) :
    V m c main_v1 i = m ((c : Thread nD τ).loc main_arg2) (ix4 0 (i 0) (i 1) (i 2)) := by
  entry_read
  pointwise

theorem down (c : Dev nD) (i : S32x256x1024.Idx) :
    V m c main_v3 i = m ((c : Thread nD τ).loc main_arg3) (ix4 0 (i 0) (i 1) (i 2)) := by
  entry_read
  pointwise

theorem gain (c : Dev nD) (i : S1x1024.Idx) :
    V m c main_v5 i = m ((c : Thread nD τ).loc main_arg4) (ix2 0 (i 1)) := by
  entry_read
  pointwise

theorem shift (c : Dev nD) (i : S1x1024.Idx) :
    V m c main_v7 i = m ((c : Thread nD τ).loc main_arg5) (ix2 0 (i 1)) := by
  entry_read
  pointwise

/-- The argument arrays, at their shapes. -/
abbrev argX (c : Dev nD) : FVec Ideal S36864x1152 .f32 := m ((c : Thread nD τ).loc main_arg0)
abbrev argUp (c : Dev nD) : FVec Ideal S1x32x1024x512 .f32 := m ((c : Thread nD τ).loc main_arg2)
abbrev argDown (c : Dev nD) : FVec Ideal S1x32x256x1024 .f32 := m ((c : Thread nD τ).loc main_arg3)
abbrev argGain (c : Dev nD) : FVec Ideal S1x1024 .f32 := m ((c : Thread nD τ).loc main_arg4)
abbrev argShift (c : Dev nD) : FVec Ideal S1x1024 .f32 := m ((c : Thread nD τ).loc main_arg5)

/-- A point's tile and its expert of the tile's group. -/
abbrev tile (t : Fin grid0.N) : Fin 36 := grid0.coords t 0
theorem tile_val (t : Fin grid0.N) : (grid0.coords t 0).val = t.val / 8 := by
  have h : (grid0.coords t 0).val = t.val / 8 % 36 := Pipeline.Grid.coords_val t 0 (by decide) rfl
  have : t.val < 288 := lt_of_lt_of_eq t.isLt (by decide +kernel)
  omega
theorem expert_val (t : Fin grid0.N) : (grid0.coords t 1).val = t.val % 8 := by
  have h : (grid0.coords t 1).val = t.val / 1 % 8 := Pipeline.Grid.coords_val t 1 (by decide) rfl
  omega

variable (hO : Ok m)

theorem index0 (t : Fin (cfgM m hO).N) : ((cfgM m hO).win 0).index t = ![t.val / 8, 0] := by
  have hv : (BitVec.ofNat 32 (grid0.coords t 0).val).toNat = (grid0.coords t 0).val :=
    Nat.mod_eq_of_lt (lt_trans (grid0.coords t 0).isLt (by decide))
  rw [← tile_val t, ← hv]
  rfl
theorem index3 (t : Fin (cfgM m hO).N) : ((cfgM m hO).win 3).index t = ![0, 0] := rfl
theorem index4 (t : Fin (cfgM m hO).N) : ((cfgM m hO).win 4).index t = ![0, 0] := rfl
theorem index5 (t : Fin (cfgM m hO).N) : ((cfgM m hO).win 5).index t = ![t.val / 8, 0] := by
  have hv : (BitVec.ofNat 32 (grid0.coords t 0).val).toNat = (grid0.coords t 0).val :=
    Nat.mod_eq_of_lt (lt_trans (grid0.coords t 0).isLt (by decide))
  rw [← tile_val t, ← hv]
  rfl

/-- Row `r` of the tile of point `t`. -/
abbrev rowOf (t : Fin grid0.N) (r : Fin 1024) : Fin 36864 :=
  ⟨(t.val / 8) * 1024 + r.val, by have : t.val < 288 := lt_of_lt_of_eq t.isLt (by decide +kernel); omega⟩

theorem row_block (c : Dev nD) (t : Fin (cfgM m hO).N) (r : Fin 1024) (d : Fin 1152) :
    (show FVec Ideal S1024x1152 .f32 from iblk m hO c 0 t) (ix2 r d) = argX m c (ix2 (rowOf t r) d) := by
  blk_point [iblk, V, index0 m hO t]

variable (hg : GroupsExist m)

theorem index1_at (hg : GroupsExist m) (t : Fin (cfgM m hO).N) : ((cfgM m hO).win 1).index t
    = ![(word m 0 (grid0.coords t 0)).toInt.toNat * 8 + t.val % 8, 0, 0] := by
  rw [← expert_val t]
  exact index1 m hg (grid0.coords t)
theorem index2_at (hg : GroupsExist m) (t : Fin (cfgM m hO).N) : ((cfgM m hO).win 2).index t
    = ![(word m 0 (grid0.coords t 0)).toInt.toNat * 8 + t.val % 8, 0, 0] := by
  rw [← expert_val t]
  exact index2 m hg (grid0.coords t)

/-- The expert of point `t`. -/
abbrev expertAt (t : Fin grid0.N) : Fin 32 := member (word m 0 (grid0.coords t 0)) (hg 0 _) ⟨t.val % 8, by omega⟩

theorem up_block (c : Dev nD) (t : Fin (cfgM m hO).N) (d : Fin 1024) (q : Fin 512) :
    (show FVec Ideal S1x1024x512 .bf16 from iblk m hO c 1 t) (ix3 0 d q) = argUp m c (ix4 0 (expertAt m hg t) d q) := by
  refine Eq.trans (b := V m c main_v1 (ix3 (expertAt m hg t) d q)) ?_ (up m c _)
  blk_point [iblk, index1_at m hO hg t]

theorem down_block (c : Dev nD) (t : Fin (cfgM m hO).N) (k : Fin 256) (l : Fin 1024) :
    (show FVec Ideal S1x256x1024 .bf16 from iblk m hO c 2 t) (ix3 0 k l) = argDown m c (ix4 0 (expertAt m hg t) k l) := by
  refine Eq.trans (b := V m c main_v3 (ix3 (expertAt m hg t) k l)) ?_ (down m c _)
  blk_point [iblk, index2_at m hO hg t]

theorem gain_block (c : Dev nD) (t : Fin (cfgM m hO).N) (k : Fin 1024) :
    (show FVec Ideal S1x1024 .f32 from iblk m hO c 3 t) (ix2 0 k) = argGain m c (ix2 0 k) := by
  refine Eq.trans (b := V m c main_v5 (ix2 0 k)) ?_ (gain m c _)
  blk_point [iblk, index3 m hO t]

theorem shift_block (c : Dev nD) (t : Fin (cfgM m hO).N) (k : Fin 1024) :
    (show FVec Ideal S1x1024 .f32 from iblk m hO c 4 t) (ix2 0 k) = argShift m c (ix2 0 k) := by
  refine Eq.trans (b := V m c main_v7 (ix2 0 k)) ?_ (shift m c _)
  blk_point [iblk, index4 m hO t]

/-- In a tile with a group, the lane the body selects is its expert's. -/
theorem lane (c : Dev nD) (t : Fin grid0.N) (h : 0 ≤ (word m 0 (grid0.coords t 0)).toInt) :
    Scalar.addi (Scalar.muli (groupAt c (grid0.coords t) (tbl m 0)) 8#32) (BitVec.ofNat 32 (grid0.coords t 1).val)
      = BitVec.ofNat 32 (expertAt m hg t).val := by
  rw [groupAt_word]
  have hw := hg 0 (grid0.coords t 0)
  have hx : ∀ w : BitVec 32, 0 ≤ w.toInt → Scalar.maxsi w 0#32 = w := fun w h => Scalar.maxsi_zero_of_nonneg (by
    have := BitVec.toInt_eq_toNat_cond w
    have := w.isLt
    omega)
  have e := expert_val t
  have hs := slab_toNat _ hw (t.val % 8) (by omega)
  rw [hx _ h] at hs
  apply BitVec.eq_of_toNat_eq
  rw [e, hs, BitVec.toNat_ofNat]
  exact (Nat.mod_eq_of_lt (lt_trans (expertAt m hg t).isLt (by norm_num))).symm

theorem live_iff (c : Dev nD) (t : Fin grid0.N) : Live m c t ↔ 0 ≤ (word m 0 (grid0.coords t 0)).toInt := by
  unfold Live
  rw [groupAt_word]
  generalize word m 0 (grid0.coords t 0) = w
  have e2 : k0_cond2 w = Scalar.cmpi .ne (Scalar.extui (BitVec.ofBool ((0#32).sle w))) 0#32 := rfl
  have e : (0#32).sle w = decide (0 ≤ w.toInt) := by simp [BitVec.sle]
  rw [e2, e]
  by_cases h : 0 ≤ w.toInt <;> simp only [h] <;> decide

/-- The cast rows of a point's tile stay in their buffer over the tile. -/
theorem rows (c : Dev nD) : ∀ (n : ℕ) (h : n < (cfgM m hO).N) (r d : Fin 1024),
    (held m hO c n h).1 (ix2 r d) = argX m c (ix2 (rowOf ⟨n, h⟩ r) ⟨d.val, by omega⟩) := by
  have first : ∀ (t : Fin (cfgM m hO).N) (h0 : t.val % 8 = 0) (r d : Fin 1024),
      (held m hO c t.val t.isLt).1 (ix2 r d) = argX m c (ix2 (rowOf t r) ⟨d.val, by omega⟩) := fun t h0 r d => by
    rw [held_first m hO c t h0]
    exact (hidden_apply _ r d).trans (row_block m hO c t r _)
  intro n
  induction n with
  | zero => exact fun h => first ⟨0, h⟩ (Nat.zero_mod 8)
  | succ n ih =>
    intro h r d
    by_cases h0 : (n + 1) % 8 = 0
    · exact first ⟨n + 1, h⟩ h0 r d
    · have e := held_next m hO c ⟨n + 1, h⟩ ⟨n, Nat.lt_of_succ_lt h⟩ rfl h0
      refine (congrFun (congrArg Prod.fst e) (ix2 r d)).trans ((ih _ r d).trans (congrArg (argX m c) ?_))
      have : rowOf ⟨n, Nat.lt_of_succ_lt h⟩ r = rowOf ⟨n + 1, h⟩ r := Fin.ext (by dsimp only; omega)
      rw [this]

/-- Row `r` of tile `i`. -/
abbrev row (i : Fin 36) (r : Fin 1024) : Fin 36864 := ⟨i.val * 1024 + r.val, by omega⟩

/-- A point's step adds its gated expert. -/
theorem step (c : Dev nD) (i : Fin 36) (k : Fin 8) (t : Fin (cfgM m hO).N) (ht : t.val = i.val * 8 + k.val)
    (hl : 0 ≤ (word m 0 i).toInt) (h : FVec Ideal S1024x1024 .bf16) (y : FVec Ideal S1024x1024 .f32) (r j : Fin 1024)
    (hh : ∀ d : Fin 1024, h (ix2 r d) = argX m c (ix2 (row i r) ⟨d.val, by omega⟩)) :
    added (F := Ideal) (grid0.coords t) (groupAt c (grid0.coords t) (tbl m 0)) (iblk m hO c 0 t) (iblk m hO c 1 t) (iblk m hO c 2 t) h y (ix2 r j)
      = y (ix2 r j) + term (argX m c) (argUp m c) (argDown m c) (member (word m 0 i) (hg 0 i) k) (row i r) j := by
  have hi : grid0.coords t 0 = i := Fin.ext (by have := tile_val t; omega)
  have he : expertAt m hg t = member (word m 0 i) (hg 0 i) k := Fin.ext (by
    show (word m 0 (grid0.coords t 0)).toInt.toNat * 8 + t.val % 8 = (word m 0 i).toInt.toNat * 8 + k.val
    rw [hi]; omega)
  have hr : rowOf t r = row i r := Fin.ext (by dsimp only; omega)
  have hw := lane m hg c t (by rw [hi]; exact hl)
  refine (added_apply _ _ _ _ _ _ _ _ hw r j).trans (Ideal.add_congr rfl ?_)
  have h1 : (fun d q => (show FVec Ideal S1x1024x512 .bf16 from iblk m hO c 1 t) (ix3 0 d q))
      = fun d q => argUp m c (ix4 0 (expertAt m hg t) d q) := funext fun d => funext fun q => up_block m hO hg c t d q
  have h2 : (fun k l => (show FVec Ideal S1x256x1024 .bf16 from iblk m hO c 2 t) (ix3 0 k l))
      = fun k l => argDown m c (ix4 0 (expertAt m hg t) k l) := funext fun d => funext fun q => down_block m hO hg c t d q
  have h3 : (fun d => h (ix2 r d)) = fun d => argX m c (ix2 (row i r) ⟨d.val, by omega⟩) := funext hh
  have h4 := row_block m hO c t r ⟨1024 + (expertAt m hg t).val, by omega⟩
  rw [h1, h2, h3]
  refine (congrArg (· * _) h4).trans ?_
  rw [hr]
  exact congrArg (fun e => term (argX m c) (argUp m c) (argDown m c) e (row i r) j) he

/-- The running sum in a tile with a group. -/
theorem sum_upto (c : Dev nD) (i : Fin 36) (hl : 0 ≤ (word m 0 i).toInt) (r j : Fin 1024) : ∀ (k : ℕ) (hk : k < 8)
    (t : Fin (cfgM m hO).N) (_ : t.val = i.val * 8 + k), (held m hO c t.val t.isLt).2 (ix2 r j)
      = ∑ s : Fin (k + 1), term (argX m c) (argUp m c) (argDown m c) (member (word m 0 i) (hg 0 i) ⟨s.val, by omega⟩) (row i r) j := by
  intro k
  induction k with
  | zero =>
    intro hk t ht
    rw [held_first m hO c t (by omega), Fin.sum_univ_one]
    refine (step m hO hg c i ⟨0, hk⟩ t ht hl _ _ r j fun d => ?_).trans ?_
    · have hr : rowOf t r = row i r := Fin.ext (by dsimp only; omega)
      rw [← hr]
      exact (hidden_apply _ r d).trans (row_block m hO c t r _)
    · rw [zero_apply, zero_add]
      rfl
  | succ k ih =>
    intro hk t ht
    have hp : t.val - 1 < (cfgM m hO).N := lt_of_le_of_lt (Nat.sub_le _ _) t.isLt
    rw [held_next m hO c t ⟨t.val - 1, hp⟩ (by dsimp only; omega) (by omega), Fin.sum_univ_castSucc]
    refine (step m hO hg c i ⟨k + 1, hk⟩ t ht hl _ _ r j fun d => ?_).trans ?_
    · have hr : rowOf ⟨t.val - 1, hp⟩ r = row i r := Fin.ext (by dsimp only; omega)
      rw [← hr]
      exact rows m hO c _ hp r d
    · exact Ideal.add_congr (ih (by omega) ⟨t.val - 1, hp⟩ (by dsimp only; omega)) rfl

/-- The written blocks cover the result. -/
theorem covers : ((cfgM m hO).win 5).Covers := by
  refine ⟨fun a => by fin_cases a <;> exact (by decide : 0 < 1024), fun (β : (a : Fin 2) → Fin (((cfgM m hO).win 5).nblk a)) => ?_⟩
  have hb : (β 0).val < 36 := lt_of_lt_of_eq (β 0).isLt (show (36864 + 1024 - 1) / 1024 = 36 by norm_num)
  have hb1 : (β 1).val < 1 := lt_of_lt_of_eq (β 1).isLt (show (1024 + 1024 - 1) / 1024 = 1 by norm_num)
  have hN : (cfgM m hO).N = 288 := (by decide +kernel : grid0.N = 288)
  refine ⟨⟨(β 0).val * 8 + 7, lt_of_lt_of_eq (show (β 0).val * 8 + 7 < 288 by omega) hN.symm⟩, (flush0_5 (adm m hO) _).mpr (by dsimp only; omega), fun a => ⟨?_, Or.inl rfl⟩⟩
  rw [index5]
  revert a
  refine fun (a : Fin 2) => ?_
  fin_cases a
  · show ((β 0).val * 8 + 7) / 8 = (β 0).val
    omega
  · show 0 = (β 1).val
    omega

include hg in
/-- The result array after the run. -/
theorem final : (dats m hO 0 (0 : Dev nD)).arrAt 5 (cfgM m hO).N
    = layer (argX m 0) (m (((0 : Dev nD) : Thread nD τ).loc main_arg1)) (hg 0) (argUp m 0) (argDown m 0) (argGain m 0) (argShift m 0) := by
  refine (dats m hO 0 (0 : Dev nD)).arrAt_eq_of_covers 5 _ (covers m hO) fun t hf (y : S1024x1024.Idx) => ?_
  have ht := (flush0_5 (adm m hO) t).mp hf
  blk_simp
  rw [after0_5]
  idx_vars y
  have hN : t.val < 288 := lt_of_lt_of_eq t.isLt (by decide +kernel : grid0.N = 288)
  obtain ⟨i, hi⟩ : ∃ i : Fin 36, t.val = i.val * 8 + 7 := ⟨⟨t.val / 8, by omega⟩, by dsimp only; omega⟩
  have hw : grid0.coords t 0 = i := Fin.ext (by have := tile_val t; omega)
  have e : ((((cfgM m hO).win 5).blk t).view.emb (ix2 y0 y1) : S36864x1024.Idx) = ix2 (row i y0) y1 := by
    blk_ext [index5 m hO t]
  refine Eq.trans ?_ (congrArg (layer (argX m 0) (m (((0 : Dev nD) : Thread nD τ).loc main_arg1)) (hg 0) (argUp m 0) (argDown m 0)
    (argGain m 0) (argShift m 0)) e).symm
  have hti : tileOf (row i y0) = i := Fin.ext (by dsimp only; omega)
  by_cases hl : 0 ≤ (word m 0 i).toInt
  · refine (congrFun (if_pos ((live_iff m 0 t).mpr (by rw [hw]; exact hl)) : block m hO 0 t = _) (ix2 y0 y1)).trans ?_
    refine Eq.trans ?_ (layer_of_group _ _ (hg 0) _ _ _ _ (row i y0) y1 i hti hl).symm
    refine (normed_apply _ _ _ _ y0 y1).trans ?_
    have h0 : rowOf t y0 = row i y0 := Fin.ext (by dsimp only; omega)
    have h1 := funext fun k => gain_block m hO 0 t k
    have h2 := funext fun k => shift_block m hO 0 t k
    have h3 : ∀ k : Fin 1024, (show FVec Ideal S1024x1152 .f32 from iblk m hO 0 0 t) (ix2 y0 ⟨k.val, by omega⟩)
        = argX m 0 (ix2 (row i y0) ⟨k.val, by omega⟩) := fun k => (row_block m hO 0 t y0 _).trans (by rw [h0])
    have h4 : ∀ k : Fin 1024, (held m hO 0 t.val t.isLt).2 (ix2 y0 k)
        = groupSum (argX m 0) (argUp m 0) (argDown m 0) (word m 0 i) (hg 0 i) (row i y0) k := fun k =>
      sum_upto m hO hg 0 i hl y0 k 7 (by omega) t hi
    have h5 := funext fun k => Ideal.add_congr (congrArg (alpha * ·) (h3 k)) (h4 k)
    exact (congrArg (fun v => layerNorm v _ _ y1) h5).trans ((congrArg (fun v => layerNorm _ v _ y1) h1).trans
      (congrArg (fun v => layerNorm _ _ v y1) h2))
  · refine (congrFun (if_neg fun h => hl (by have := (live_iff m 0 t).mp h; rwa [hw] at this) : block m hO 0 t = _) (ix2 y0 y1)).trans ?_
    exact (none_apply _).trans (layer_of_none _ _ (hg 0) _ _ _ _ (row i y0) y1 i hti hl).symm

end Cert.GroupedMoeIdeal.Tiles

end
-- ==== Proof.Grouped.Results.lean ====
/-
  The reference of the grouped expert layer read at an index, its sum over the thirty-two experts brought to the eight of
  the row's group, and the claims of the two programs.
-/
module

public import proofs.«01_k».proof.Defs
public import proofs.«01_k».proof.Proof.Grouped.Value
public import proofs.«01_k».proof.Proof.Gen.GroupedMoe
public import proofs.«01_k».proof.Proof.Gen.GroupedMoeRefIdeal.Read
public import Idealize.ShloMosaic.Lib.WordCmp

@[expose] public section

set_option maxRecDepth 16384

noncomputable section

open Idealize.ShloMosaic Idealize.ShloMosaic.TcCoe Idealize.SL.Sem

namespace Cert.GroupedMoeRefIdeal.Tiles

open Cert.GroupedMoeRefIdeal Cert.GroupedMoeRefIdeal.Read Cert.LayerMath
open Cert.GroupedMoeIdeal.Tiles (gate term member groupSum tileOf layer layer_of_group layer_of_none)

/-- The group of expert `e`. -/
theorem group_of_expert : ∀ e : Fin 32, val_main_v7 (F := Ideal) (ix2 0 e) = BitVec.ofNat 32 (e.val / 8) := by
  intro e
  pointwise [val_main_v7, val_main_v6, val_main_v5, val_main_c, val_main_call0_v0, val_main_call0_v1, val_main_call0_v2,
    val_main_call0_v3, val_main_call0_v4, val_main_call0_v5, val_main_call0_v6, val_main_call0_v7, val_main_call0_v8,
    val_main_call0_v9, val_main_call0_v10, val_main_call0_v11, val_main_call0_v12, val_main_call0_v13, val_main_call0_c,
    val_main_call0_c_0]
  revert e
  decide +kernel

/-- The reference's sum over the experts, the gates of the other groups at zero. -/
theorem sum (x0 : FVec Ideal S36864x1152 .f32) (x1 : IVec S36 32) (x2 : FVec Ideal S1x32x1024x512 .f32)
    (x3 : FVec Ideal S1x32x256x1024 .f32) (r : Fin 36864) (j : Fin 1024) :
    val_main_v25 (F := Ideal) x0 x1 x2 x3 (ix2 r j)
      = ∑ e : Fin 32, Scalar.select (IntOp.cmpi CmpIPredicate.eq (BitVec.ofNat 32 (e.val / 8)) (x1 (ix1 (tileOf r)))) (gate x0 r e) 0
        * expert (fun d => x0 (ix2 r ⟨d.val, by omega⟩)) (fun d q => x2 (ix4 0 e d q)) (fun k l => x3 (ix4 0 e k l)) j := by
  have hq := group_of_expert
  generalize hy : val_main_v7 (F := Ideal) = y at hq
  pointwise [val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v4, val_main_v3, val_main_v2, val_main_v1, val_main_v0, val_main_cst, val_main_cst_0,
    val_main_call1_v0, val_main_call1_v1, val_main_call2_v0, val_main_call2_v1, val_main_call2_v2, val_main_call2_v3,
    val_main_call2_cst, val_main_call2_cst_0, val_main_call2_v4, val_main_call2_v5, hy, hq, expert, swish]
  simp only [mul_comm (x2 _) (x0 _)]
  refine Finset.sum_congr rfl fun e _ => ?_
  by_cases hm : IntOp.cmpi CmpIPredicate.eq (BitVec.ofNat 32 (e.val / 8)) (x1 (ix1 (tileOf r))) = 1#1
  · exact (congrArg (· * _) (if_pos hm)).trans (if_pos hm).symm
  · refine ((congrArg (· * _) (if_neg hm)).trans ?_).trans (if_neg hm).symm
    refine (congrArg (· * _) ?_).trans (zero_mul _)
    exact Ideal.ofBits_zero .f32

/-- A sum over thirty-two experts that keeps those of one group is the sum over the group's eight. -/
theorem sum_of_group (f : Fin 32 → EReal) (n : ℕ) (hn : n < 4) :
    (∑ e : Fin 32, if e.val / 8 = n then f e else 0) = ∑ k : Fin 8, f ⟨n * 8 + k.val, by omega⟩ := by
  rw [← Finset.sum_filter]
  refine (Finset.sum_nbij (fun k : Fin 8 => (⟨n * 8 + k.val, by omega⟩ : Fin 32)) ?_ ?_ ?_ fun _ _ => rfl).symm
  · intro k _
    simp only [Finset.mem_filter, Finset.mem_univ, true_and]
    omega
  · intro k _ k' _ h
    have := congrArg Fin.val h
    simp only at this
    exact Fin.ext (by omega)
  · intro e he
    simp only [Finset.coe_filter, Finset.mem_univ, true_and, Set.mem_setOf_eq] at he
    exact ⟨⟨e.val % 8, by omega⟩, Finset.mem_coe.2 (Finset.mem_univ _), Fin.ext (by simp only; omega)⟩

/-- The word of an expert's group equals a group's word exactly when their numbers agree. -/
theorem same_group (w : BitVec 32) (h0 : 0 ≤ w.toInt) (h4 : w.toInt < 4) (e : Fin 32) :
    IntOp.cmpi CmpIPredicate.eq (BitVec.ofNat 32 (e.val / 8)) w = 1#1 ↔ e.val / 8 = w.toInt.toNat := by
  have hw : w = BitVec.ofNat 32 w.toInt.toNat := by
    have hn : w.toInt.toNat = w.toNat := by
      have := BitVec.toInt_eq_toNat_cond w
      have := w.isLt
      split at * <;> omega
    rw [hn]
    simp
  have hb := WordCmp.cmpi_eq_ofNat_eq_one_iff (w := 32) (a := e.val / 8) (b := w.toInt.toNat) (by omega) (by omega)
  rwa [← hw] at hb

/-- The reference's sum is the sum over the experts of the row's group. -/
theorem sum_of_live (x0 : FVec Ideal S36864x1152 .f32) (x1 : IVec S36 32) (x2 : FVec Ideal S1x32x1024x512 .f32)
    (x3 : FVec Ideal S1x32x256x1024 .f32) (r : Fin 36864) (j : Fin 1024) (h0 : 0 ≤ (x1 (ix1 (tileOf r))).toInt)
    (h4 : (x1 (ix1 (tileOf r))).toInt < 4) :
    val_main_v25 (F := Ideal) x0 x1 x2 x3 (ix2 r j) = groupSum x0 x2 x3 (x1 (ix1 (tileOf r))) h4 r j := by
  rw [sum]
  refine (Finset.sum_congr rfl fun e _ => ?_).trans
    (sum_of_group (fun e => term x0 x2 x3 e r j) (x1 (ix1 (tileOf r))).toInt.toNat (by omega))
  by_cases he : e.val / 8 = (x1 (ix1 (tileOf r))).toInt.toNat
  · exact (congrArg (· * _) (if_pos ((same_group _ h0 h4 e).2 he))).trans (if_pos he).symm
  · exact ((congrArg (· * _) (if_neg fun h => he ((same_group _ h0 h4 e).1 h))).trans (zero_mul _)).trans (if_neg he).symm

/-- The reference's result is the layer. -/
theorem layer_eq (x0 : FVec Ideal S36864x1152 .f32) (x1 : IVec S36 32) (x2 : FVec Ideal S1x32x1024x512 .f32)
    (x3 : FVec Ideal S1x32x256x1024 .f32) (x4 x5 : FVec Ideal S1x1024 .f32) (hg : ∀ i : Fin 36, (x1 (ix1 i)).toInt < 4) :
    val_main_v57 (F := Ideal) x0 x1 x2 x3 x4 x5 = layer x0 x1 hg x2 x3 x4 x5 := by
  funext i
  idx_vars i
  have hs := fun j => sum_of_live x0 x1 x2 x3 i0 j
  generalize hy : val_main_v25 (F := Ideal) x0 x1 x2 x3 = y at hs
  pointwise [val_main_v57, val_main_call3_v0, val_main_call3_v1, val_main_call3_v2, val_main_cst_8, val_main_v56, val_main_v55,
    val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28,
    val_main_v27, val_main_v26, val_main_v4, val_main_v3, val_main_v2, val_main_v0, val_main_c_1, val_main_cst_2, val_main_cst_3, val_main_cst_4, val_main_cst_5, val_main_cst_6, val_main_cst_7, hy]
  by_cases hl : 0 ≤ (x1 (ix1 (tileOf i0))).toInt
  · refine (if_pos (IntOp.cmpi_sge.2 (by simpa using hl))).trans (Eq.trans ?_ (layer_of_group x0 x1 hg x2 x3 x4 x5 i0 i1 _ rfl hl).symm)
    have hs' := fun j => hs j hl (hg _)
    simp only [hs', layerNorm, mean]
  · refine (if_neg fun h => hl (by simpa using IntOp.cmpi_sge.1 h)).trans (Eq.trans ?_ (layer_of_none x0 x1 hg x2 x3 x4 x5 i0 i1 _ rfl hl).symm)
    exact Ideal.ofBits_zero .f32

end Cert.GroupedMoeRefIdeal.Tiles

namespace Cert.GroupedMoeProof

open Cert.GroupedMoeIdeal.Tiles (GroupsExist groupsExist_of_pre ok_of_groups layer argX argUp argDown argGain argShift)

/-- The two printings have the same kernel bodies. -/
theorem same_bodies : Cert.GroupedMoe.defs₀ (F := Bits) = Cert.GroupedMoeIdeal.defs₀ (F := Bits) := by
  unfold Cert.GroupedMoe.defs₀ Cert.GroupedMoeIdeal.defs₀
  refine congrArg (Defs.onTc (τ := Cert.GroupedMoeIdeal.τ) (Λ := Cert.GroupedMoeIdeal.Λ₀)) ?_
  funext l x
  match l with
  | 0 => rfl

set_option maxHeartbeats 1000000 in
theorem same_defs : Cert.GroupedMoe.defs (F := Bits) = Cert.GroupedMoeIdeal.defs (F := Bits) :=
  congrArg (Pipeline.defs Cert.GroupedMoeIdeal.pcfgs) same_bodies

set_option maxHeartbeats 1000000 in
theorem same_main : Cert.GroupedMoe.main (F := Bits) = Cert.GroupedMoeIdeal.main (F := Bits) := rfl

set_option maxHeartbeats 1000000 in
/-- The program on words ends with its arguments unchanged and every counter at zero. -/
theorem frame_kernel : Cert.quiescent_GroupedMoe (hGroupedMoe := Cert.GroupedMoe.Gen.facts)
    (hPre_groups_exist := Cert.Pre_groups_exist.Gen.facts) := by
  intro m ρ h
  have hf := Cert.GroupedMoeIdeal.Tiles.frame (F := Bits) m ρ
    (ok_of_groups m fun c i => groupsExist_of_pre _ _ _ _ _ _ (h c) i)
  refine (congrArg₂ (fun d p => θ_run d (onTc (τ := Cert.GroupedMoeIdeal.τ) p) _ _) same_defs same_main).mpr ?_
  exact hf

/-- The program on reals ends with its arguments unchanged and every counter at zero. -/
theorem frame_ideal : Cert.quiescent_GroupedMoeIdeal (hGroupedMoeIdeal := Cert.GroupedMoeIdeal.Gen.facts)
    (hPre_groups_exist := Cert.Pre_groups_exist.Gen.facts) :=
  fun m ρ h => Cert.GroupedMoeIdeal.Tiles.frame (F := Ideal) m ρ
    (ok_of_groups m fun c i => groupsExist_of_pre _ _ _ _ _ _ (h c) i)

/-- The reference leaves its arguments unchanged and ends with every counter at zero. -/
theorem frame_reference : Cert.quiescent_GroupedMoeRefIdeal (hGroupedMoeRefIdeal := Cert.GroupedMoeRefIdeal.Gen.facts)
    (hPre_groups_exist := Cert.Pre_groups_exist.Gen.facts) :=
  fun m ρ _ => (θ_run _ _ _).mono (fun r h => ⟨fun c => (h c).2, sem_eq_zero_of_no_sems (by decide) _⟩)
    (Cert.GroupedMoeRefIdeal.Value.run (F := Ideal) m ρ)

/-- Both programs end with the layer. -/
theorem same_results : Cert.algebraic_GroupedMoeIdeal_GroupedMoeRefIdeal
    (hGroupedMoeIdeal := Cert.GroupedMoeIdeal.Gen.facts) (hGroupedMoeRefIdeal := Cert.GroupedMoeRefIdeal.Gen.facts)
    (hPre_groups_exist := Cert.Pre_groups_exist.Gen.facts) := by
  intro m g m' g' hpre hargs
  have hg : GroupsExist m := fun c i => groupsExist_of_pre _ _ _ _ _ _ (hpre c) i
  have hO := ok_of_groups m hg
  refine ⟨fun c => layer (argX m c) (m (((c : Dev Cert.GroupedMoeIdeal.nD) : Thread Cert.GroupedMoeIdeal.nD Cert.GroupedMoeIdeal.τ).loc
      Cert.GroupedMoeIdeal.main_arg1)) (hg c) (argUp m c) (argDown m c) (argGain m c) (argShift m c), ?_, ?_⟩
  · refine (θ_run _ _ _).mono (fun r h c => ⟨?_, h.2 c⟩) (θ_run_and (Cert.GroupedMoeIdeal.Tiles.run_main (F := Ideal) m g hO)
      (Cert.GroupedMoeIdeal.Tiles.unchanged (F := Ideal) m g hO))
    obtain rfl : c = 0 := Subsingleton.elim c 0
    exact ((h.1 0).1 5).trans (Cert.GroupedMoeIdeal.Tiles.final m hO hg)
  · refine (θ_run _ _ _).mono (fun r h c => ?_) (Cert.GroupedMoeRefIdeal.Value.run (F := Ideal) m' g')
    obtain ⟨h1, ha⟩ := h c
    obtain ⟨e0, e1, e2, e3, e4, e5⟩ := hargs c
    refine ⟨h1.trans ?_, ha⟩
    refine (Cert.GroupedMoeRefIdeal.Read.val_main_v57_eq m' c).trans ?_
    rw [e0, e1, e2, e3, e4, e5]
    exact Cert.GroupedMoeRefIdeal.Tiles.layer_eq _ _ _ _ _ _ (hg c)

end Cert.GroupedMoeProof

end
-- ==== Proof.InProj.Rotation.lean ====
/-
  The plain form of what the two input projections leave: one column of the projection of one row, and the
  rotation by position of a head's 64 entries. Both are stated over plain functions, so that the programs, whose
  blocks are laid out differently, can meet in them.
-/
module

public import proofs.«01_k».proof.Defs
public import Idealize.ShloMosaic.Lib.Pointwise

@[expose] public section

noncomputable section

open Idealize.ShloMosaic

namespace Cert.InProjParts

/-- The angle by which pair `j` of a head turns at position `p`: the position times `10000 ^ (-j / 32)`. -/
def angle (p : BitVec 32) (j : ℕ) : EReal :=
  FloatOps.sitofp (F := Ideal) FTy.f32 p *
    Ideal.pow (Ideal.ofBits FTy.f32 1176256512#32)
      (Ideal.div (-FloatOps.sitofp (F := Ideal) FTy.f32 (BitVec.ofNat 32 j)) (Ideal.ofBits FTy.f32 1107296256#32))

/-- The sine with the sign it takes at lane `j` of a row of heads: negative in the lower half of a head. -/
def signed (p : BitVec 32) (j : ℕ) : EReal :=
  if j % 64 < 32 then -Ideal.sin (angle p (j % 32)) else Ideal.sin (angle p (j % 32))

/-- Entry `d` of a head `T` turned by its position: entries `d` and `d + 32` are one pair. -/
def turned (T : Fin 64 → EReal) (p : BitVec 32) (d : Fin 64) : EReal :=
  if h : d.val < 32 then
    T d * Ideal.cos (angle p d.val) - T ⟨32 + d.val, by omega⟩ * Ideal.sin (angle p d.val)
  else
    T ⟨d.val - 32, by omega⟩ * Ideal.sin (angle p (d.val - 32)) + T ⟨32 + (d.val - 32), by omega⟩ * Ideal.cos (angle p (d.val - 32))

/-- Column `q` of the projection of one row `x`. -/
def column (w : FVec Ideal Cert.SampleInProjRefIdeal.S1x1024x6216 .f32) (x : Fin 1024 → EReal) (q : Fin 6216) : EReal :=
  ∑ k : Fin 1024, x k * w (ix3 0 k q)

/-- Entry `d` of the key of head `h`, before it turns. -/
def key (w : FVec Ideal Cert.SampleInProjRefIdeal.S1x1024x6216 .f32) (x : Fin 1024 → EReal) (h : Fin 8) (d : Fin 64) : EReal :=
  column w x ⟨1280 + (h.val * 64 + d.val), by omega⟩

/-- Entry `d` of the value of head `h`. -/
def value (w : FVec Ideal Cert.SampleInProjRefIdeal.S1x1024x6216 .f32) (x : Fin 1024 → EReal) (h : Fin 8) (d : Fin 64) : EReal :=
  column w x ⟨1792 + (h.val * 64 + d.val), by omega⟩

/-- Entry `d` of the index key, before it turns. -/
def indexKey (w : FVec Ideal Cert.SampleInProjRefIdeal.S1x1024x6216 .f32) (x : Fin 1024 → EReal) (d : Fin 64) : EReal :=
  column w x ⟨2816 + d.val, by omega⟩

/-- Channel `j` of what the convolution takes in. -/
def taken (w : FVec Ideal Cert.SampleInProjRefIdeal.S1x1024x6216 .f32) (x : Fin 1024 → EReal) (j : Fin 256) : EReal :=
  column w x ⟨512 + j.val, by omega⟩ * column w x ⟨j.val, by omega⟩

theorem angle_eq (p : BitVec 32) (j : ℕ) :
    FloatOps.sitofp (F := Ideal) FTy.f32 p *
      Ideal.pow (Ideal.ofBits FTy.f32 1176256512#32)
        (Ideal.div (-FloatOps.sitofp (F := Ideal) FTy.f32 (BitVec.ofNat 32 j)) (Ideal.ofBits FTy.f32 1107296256#32))
      = angle p j := rfl

theorem cos_at {p : BitVec 32} {i j : ℕ} (h : i = j) : Ideal.cos (angle p i) = Ideal.cos (angle p j) := by rw [h]

theorem sin_at {p : BitVec 32} {i j : ℕ} (h : i = j) : Ideal.sin (angle p i) = Ideal.sin (angle p j) := by rw [h]

theorem signed_at {p : BitVec 32} {i j : ℕ} (h : i % 64 = j % 64) : signed p i = signed p j := by
  have e : i % 32 = j % 32 := by omega
  unfold signed
  rw [h, e]

/-- Two readings of one entry of the weights. -/
theorem weight_at (w : FVec Ideal Cert.SampleInProjRefIdeal.S1x1024x6216 .f32) (a : Fin 1024) {p q : Fin 6216}
    (h : p.val = q.val) : w (ix3 0 a p) = w (ix3 0 a q) := by rw [Fin.ext h]

/-- The lanes of a row of heads whose place in their head is below 32, as the word comparison decides it. -/
theorem low_lane (j : Fin 512) : IntOp.cmpi CmpIPredicate.slt (IntOp.andi (BitVec.ofNat 32 j.val) 63#32) 32#32
    = if j.val % 64 < 32 then 1#1 else 0#1 := by
  revert j
  decide +kernel

/-- A selection by that comparison. -/
theorem select_low_lane (j : Fin 512) (a b : EReal) :
    Scalar.select (IntOp.cmpi CmpIPredicate.slt (IntOp.andi (BitVec.ofNat 32 j.val) 63#32) 32#32) a b
      = if j.val % 64 < 32 then a else b := by
  rw [low_lane]
  split <;> rfl

/-- The rotation written with swapped halves: each entry times the cosine plus its partner times the signed sine. -/
theorem turned_eq (T : Fin 64 → EReal) (p : BitVec 32) (d : Fin 64) (partner c s : EReal)
    (hp : ∀ e : Fin 64, e.val = (d.val + 32) % 64 → partner = T e)
    (hc : c = Ideal.cos (angle p (d.val % 32)))
    (hs : s = signed p d.val) :
    T d * c + partner * s = turned T p d := by
  unfold turned
  rw [signed, Nat.mod_eq_of_lt d.isLt] at hs
  subst hc hs
  split
  · next h =>
    rw [hp ⟨32 + d.val, by omega⟩ (by show 32 + d.val = _; omega), Nat.mod_eq_of_lt h, mul_neg, sub_eq_add_neg]
  · next h =>
    have e : d.val % 32 = d.val - 32 := by omega
    have ed : (⟨32 + (d.val - 32), by omega⟩ : Fin 64) = d := Fin.ext (by show 32 + (d.val - 32) = _; omega)
    rw [hp ⟨d.val - 32, by omega⟩ (by show d.val - 32 = _; omega), e, ed, add_comm]

end Cert.InProjParts

end
-- ==== Proof.InProj.Tables.lean ====
module

public import proofs.«01_k».proof.Defs
public import proofs.«01_k».proof.Proof.Gen.InProjIdeal.Frame
public import proofs.«01_k».proof.Proof.Gen.InProjRefIdeal.Run
public import proofs.«01_k».proof.Proof.Gen.InProjRefIdeal.Read
public import proofs.«01_k».proof.Proof.InProj.Rotation
public import Idealize.ShloMosaic.Lib.Pointwise
public import Idealize.ShloMosaic.Lib.Pipeline.ValueKit
public import Idealize.ShloMosaic.Lib.Pipeline.ReadBack
public import Idealize.ShloMosaic.Lib.WordCmp
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

open Cert.InProjParts

namespace Cert.InProjIdeal.Parts

open Cert.InProjIdeal Cert.InProjIdeal.Gen

variable (m : (ℓ : Loc nD τ sig) → Buf (Elt Ideal) ℓ)

/-- The position of row `p`, as a word. -/
abbrev place (p : ℕ) : BitVec 32 := BitVec.ofNat 32 p

/-- One cosine table entry. -/
theorem cosines (c : Dev nD) (p : Fin 2048) (j : Fin 128) : (V m c main_v15 : FVec Ideal S2048x128 .f32) (ix2 p j)
    = Ideal.cos (angle (place p.val) (j.val % 32)) := by
  unfold V V0
  rw [List.flatten_singleton]
  after_reads_simp
  pointwise
  after_reads_simp
  pointwise
  simp only [angle_eq]
  split_ifs <;> exact cos_at (by omega)

/-- One signed sine table entry. -/
theorem sines (c : Dev nD) (p : Fin 2048) (j : Fin 128) : (V m c main_v17 : FVec Ideal S2048x128 .f32) (ix2 p j)
    = signed (place p.val) j.val := by
  unfold V V0
  rw [List.flatten_singleton]
  after_reads_simp
  pointwise
  after_reads_simp
  pointwise
  simp only [angle_eq, signed]
  split_ifs <;> first | omega | exact sin_at (by omega) | exact congrArg (fun q : EReal => -q) (sin_at (by omega))

/-- One entry of the transposed cosine table. -/
theorem cosinesT (c : Dev nD) (e : Fin 32) (p : Fin 2048) : (V m c main_v18 : FVec Ideal S32x2048 .f32) (ix2 e p)
    = Ideal.cos (angle (place p.val) e.val) := by
  unfold V V0
  rw [List.flatten_singleton]
  after_reads_simp
  pointwise
  simp only [angle_eq]

/-- One entry of the transposed sine table. -/
theorem sinesT (c : Dev nD) (e : Fin 32) (p : Fin 2048) : (V m c main_v19 : FVec Ideal S32x2048 .f32) (ix2 e p)
    = Ideal.sin (angle (place p.val) e.val) := by
  unfold V V0
  rw [List.flatten_singleton]
  after_reads_simp
  pointwise
  simp only [angle_eq]

/-- The packed weights' first columns, for the convolution. -/
theorem firstColumns (c : Dev nD) (a : Fin 1024) (j : Fin 768) :
    (V m c main_v44 : FVec Ideal S1024x1664 .bf16) (ix2 a ⟨j.val, by omega⟩)
      = m ((c : Thread nD τ).loc main_arg1) (ix3 0 a ⟨j.val, by omega⟩) := by
  unfold V V0
  rw [List.flatten_singleton]
  after_reads_simp
  pointwise
  after_reads_simp
  pointwise
  have hj := j.isLt
  by_cases h1 : j.val < 256
  · rw [dif_pos h1]
  rw [dif_neg h1]
  by_cases h2 : j.val - 256 < 256
  · rw [dif_pos h2]; exact weight_at (m ((c : Thread nD τ).loc main_arg1)) a (by dsimp only; omega)
  rw [dif_neg h2, dif_pos (by omega)]
  exact weight_at (m ((c : Thread nD τ).loc main_arg1)) a (by dsimp only; omega)

/-- The rows of the transposed weights that hold the values. -/
theorem valueRows (c : Dev nD) (a : Fin 1024) (j : Fin 512) :
    (V m c main_v48 : FVec Ideal S2128x1024 .bf16) (ix2 ⟨1536 + j.val, by omega⟩ a)
      = m ((c : Thread nD τ).loc main_arg1) (ix3 0 a ⟨1792 + j.val, by omega⟩) := by
  unfold V V0
  rw [List.flatten_singleton]
  after_reads_simp
  pointwise
  after_reads_simp
  pointwise
  rw [dif_neg (by omega), dif_neg (by omega), dif_neg (by omega), dif_pos (by omega)]
  exact weight_at (m ((c : Thread nD τ).loc main_arg1)) a (by dsimp only; omega)

/-- The rows of the transposed weights that hold the keys. -/
theorem keyRows (c : Dev nD) (a : Fin 1024) (j : Fin 512) :
    (V m c main_v48 : FVec Ideal S2128x1024 .bf16) (ix2 ⟨1024 + j.val, by omega⟩ a)
      = m ((c : Thread nD τ).loc main_arg1) (ix3 0 a ⟨1280 + j.val, by omega⟩) := by
  unfold V V0
  rw [List.flatten_singleton]
  after_reads_simp
  pointwise
  after_reads_simp
  pointwise
  rw [dif_neg (by omega), dif_neg (by omega), dif_pos (by omega)]
  exact weight_at (m ((c : Thread nD τ).loc main_arg1)) a (by dsimp only; omega)

/-- The rows of the transposed weights that hold the index key. -/
theorem indexRows (c : Dev nD) (a : Fin 1024) (j : Fin 64) :
    (V m c main_v48 : FVec Ideal S2128x1024 .bf16) (ix2 ⟨2048 + j.val, by omega⟩ a)
      = m ((c : Thread nD τ).loc main_arg1) (ix3 0 a ⟨2816 + j.val, by omega⟩) := by
  unfold V V0
  rw [List.flatten_singleton]
  after_reads_simp
  pointwise
  after_reads_simp
  pointwise
  rw [dif_neg (by omega), dif_neg (by omega), dif_neg (by omega), dif_neg (by omega), dif_pos (by omega)]
  exact weight_at (m ((c : Thread nD τ).loc main_arg1)) a (by dsimp only; omega)

end Cert.InProjIdeal.Parts

end
-- ==== Proof.InProj.Blocks.lean ====
module

public import proofs.«01_k».proof.Proof.InProj.Tables

@[expose] public section

set_option maxRecDepth 16384

noncomputable section

open Idealize.ShloMosaic Idealize.ShloMosaic.TcCoe Idealize.SL.Sem
open Cert.InProjParts

namespace Cert.InProjIdeal.Parts

open Cert.InProjIdeal Cert.InProjIdeal.Gen

variable (m : (ℓ : Loc nD τ sig) → Buf (Elt Ideal) ℓ)

/-- What each grid point stages: four blocks of 512 positions of each sequence. -/
theorem idx : ∀ t : Fin cfg0.N, win0_0.index t = ![t.val / 4, t.val % 4, 0] ∧ win0_1.index t = ![0, 0] ∧ win0_2.index t = ![0, 0]
    ∧ win0_5.index t = ![0, t.val % 4] ∧ win0_6.index t = ![0, t.val % 4] ∧ win0_15.index t = ![t.val / 4, 0, 0, t.val % 4]
    ∧ win0_16.index t = ![t.val / 4, 0, 0, t.val % 4] ∧ win0_19.index t = ![t.val / 4, 0, t.val % 4]
    ∧ win0_21.index t = ![t.val / 4, 0, 0] :=
  (by decide +kernel : ∀ t : Fin grid0.N, _)

/-- Row `p` of sequence `i`. -/
abbrev row (c : Dev nD) (i : Fin 16) (p : Fin 2048) : Fin 1024 → EReal := fun k => m ((c : Thread nD τ).loc main_arg0) (ix3 i p k)

/-- The projection's weights as launched. -/
abbrev weights (c : Dev nD) : FVec Ideal S1x1024x6216 .f32 := m ((c : Thread nD τ).loc main_arg1)

/-- The sequence of grid point `t`. -/
abbrev seq (t : Fin cfg0.N) : Fin 16 := ⟨t.val / 4, by have h : t.val < 64 := t.isLt; omega⟩

/-- Position `r` of the block of grid point `t`. -/
abbrev pos (t : Fin cfg0.N) (r : Fin 512) : Fin 2048 := ⟨t.val % 4 * 512 + r.val, by omega⟩

theorem inputs (c : Dev nD) (i : Fin 16) (p : Fin 2048) (k : Fin 1024) :
    (V m c main_arg0 : FVec Ideal S16x2048x1024 .f32) (ix3 i p k) = row m c i p k := by
  unfold V V0
  rw [List.flatten_singleton]
  after_reads_simp

theorem inputBlock (c : Dev nD) (t : Fin cfg0.N) (r : Fin 512) (k : Fin 1024) :
    (show FVec Ideal S1x512x1024 .f32 from iblk m c 0 t) (ix3 0 r k) = row m c (seq t) (pos t r) k := by
  refine Eq.trans (b := V m c main_arg0 (ix3 (seq t) (pos t r) k)) ?_ (inputs m c _ _ k)
  blk_point [iblk, idx t]

theorem cosineBlock (c : Dev nD) (t : Fin cfg0.N) (e : Fin 32) (r : Fin 512) :
    (show FVec Ideal S32x512 .f32 from iblk m c 5 t) (ix2 e r) = Ideal.cos (angle (place (pos t r).val) e.val) := by
  refine Eq.trans (b := V m c main_v18 (ix2 e (pos t r))) ?_ (cosinesT m c e _)
  blk_point [iblk, idx t]

theorem sineBlock (c : Dev nD) (t : Fin cfg0.N) (e : Fin 32) (r : Fin 512) :
    (show FVec Ideal S32x512 .f32 from iblk m c 6 t) (ix2 e r) = Ideal.sin (angle (place (pos t r).val) e.val) := by
  refine Eq.trans (b := V m c main_v19 (ix2 e (pos t r))) ?_ (sinesT m c e _)
  blk_point [iblk, idx t]

theorem weightBlock (c : Dev nD) (t : Fin cfg0.N) (k : Fin 1024) (q : Fin 1664) :
    (show FVec Ideal S1024x1664 .bf16 from iblk m c 1 t) (ix2 k q) = (V m c main_v44 : FVec Ideal S1024x1664 .bf16) (ix2 k q) := by
  blk_point [iblk, idx t]

theorem rowBlock (c : Dev nD) (t : Fin cfg0.N) (k : Fin 1024) (q : Fin 2128) :
    (show FVec Ideal S2128x1024 .bf16 from iblk m c 2 t) (ix2 q k) = (V m c main_v48 : FVec Ideal S2128x1024 .bf16) (ix2 q k) := by
  blk_point [iblk, idx t]

/-- A product's entry times its tables, in the lower half of a head. -/
theorem turned_low (T : Fin 64 → EReal) (p : BitVec 32) (d : Fin 64) (e : ℕ) (a b : EReal) (hd : d.val < 32) (he : e = d.val)
    (h1 : a = T d) (h2 : ∀ g : Fin 64, g.val = 32 + d.val → b = T g) :
    a * Ideal.cos (angle p e) - b * Ideal.sin (angle p e) = turned T p d := by
  unfold turned
  rw [dif_pos hd, he, h1, h2 ⟨32 + d.val, by omega⟩ rfl]

/-- The same in the upper half. -/
theorem turned_high (T : Fin 64 → EReal) (p : BitVec 32) (d : Fin 64) (e : ℕ) (a b : EReal) (hd : ¬ d.val < 32)
    (he : e = d.val - 32) (h1 : ∀ g : Fin 64, g.val = d.val - 32 → a = T g) (h2 : b = T d) :
    a * Ideal.sin (angle p e) + b * Ideal.cos (angle p e) = turned T p d := by
  have ed : (⟨32 + (d.val - 32), by omega⟩ : Fin 64) = d := Fin.ext (by show 32 + (d.val - 32) = _; omega)
  unfold turned
  rw [dif_neg hd, he, h1 ⟨d.val - 32, by omega⟩ rfl, h2, ed]

/-- The keys of all sequences, positions innermost. -/
def keysOut (c : Dev nD) : FVec Ideal S16x8x64x2048 .f32 := fun y =>
  turned (key (weights m c) (row m c (y 0) (y 3)) (y 1)) (place (y 3).val) (y 2)

/-- The values of all sequences, positions innermost. -/
def valuesOut (c : Dev nD) : FVec Ideal S16x8x64x2048 .f32 := fun y =>
  value (weights m c) (row m c (y 0) (y 3)) (y 1) (y 2)

/-- The index keys of all sequences, positions innermost. -/
def indexOut (c : Dev nD) : FVec Ideal S16x64x2048 .f32 := fun y =>
  turned (indexKey (weights m c) (row m c (y 0) (y 2))) (place (y 2).val) (y 1)

/-- What the convolution takes in at the last two positions of each sequence. -/
def statesOut (c : Dev nD) : FVec Ideal S16x2x256 .f32 := fun y =>
  taken (weights m c) (row m c (y 0) ⟨2046 + (y 1).val, by have h : (y 1).val < 2 := (y 1).isLt; omega⟩) (y 2)

end Cert.InProjIdeal.Parts

end
-- ==== Proof.InProj.Arrays.lean ====
module

public import proofs.«01_k».proof.Proof.InProj.Blocks

@[expose] public section

set_option maxRecDepth 16384

noncomputable section

open Idealize.ShloMosaic Idealize.ShloMosaic.TcCoe Idealize.SL.Sem
open Cert.InProjParts

namespace Cert.InProjIdeal.Parts

open Cert.InProjIdeal Cert.InProjIdeal.Gen

variable (m : (ℓ : Loc nD τ sig) → Buf (Elt Ideal) ℓ)

theorem valuesArr (c : Dev nD) : (dats m 0 c).arrAt 16 cfg0.N = valuesOut m c := by
  refine (dats m 0 c).arrAt_eq_of_covers 16 _ (by decide +kernel) fun t _ (y : S1x8x64x512.Idx) => ?_
  blk_simp
  rw [after0_16]
  idx_vars y
  refine Eq.trans (b := valuesOut m c (ix4 (seq t) y1 y2 (pos t y3))) ?_ (by blk_ext [idx t])
  by_cases h0 : t.val % 4 = 0
  on_goal 1 => rw [outsAt0_A m c t h0]
  on_goal 2 => rw [outsAt0_B m c t h0]
  all_goals
    frame_out
    generalize hP : k0_pay34 (k0_pay2 (iblk m c 0 t)) _ = P
    have fP : ∀ q r : Fin 512, P (ix2 q r) = column (weights m c) (row m c (seq t) (pos t r)) ⟨1792 + q.val, by omega⟩ := by
      intro q r
      rw [← hP]
      pointwise [k0_pay34, k0_pay2]
      unfold column
      refine Finset.sum_congr rfl fun k _ => ?_
      rw [mul_comm]
      exact congrArg₂ (· * ·) (inputBlock m c t r k) ((rowBlock m c t k _).trans (valueRows m c k q))
    clear hP h0
    refine Eq.trans (b := P (ix2 ⟨y1.val * 64 + y2.val, by omega⟩ y3)) ?_ (fP _ _)
    canon_tiles x h
    all_goals
      have e1 : y1.val = _ := h1
      have e2 : y2.val = _ := h2
      have e3 : y3.val = _ := h3
      open_payloads
      pointwise
      blk_ext

theorem statesArr (c : Dev nD) : (dats m 0 c).arrAt 21 cfg0.N = statesOut m c := by
  refine (dats m 0 c).arrAt_eq_of_covers 21 _ (by decide +kernel) fun t hf (y : S1x2x256.Idx) => ?_
  have ht : t.val % 4 = 3 := (by decide +kernel : ∀ t : Fin grid0.N, win0_21.flush t = true → t.val % 4 = 3) t hf
  blk_simp
  rw [after0_21, outsAt0_B m c t (by omega)]
  frame_out
  idx_vars y
  refine Eq.trans (b := statesOut m c (ix3 (seq t) y1 y2)) ?_ (by blk_ext [idx t])
  pointwise [k0_pay17, k0_pay9, k0_pay8, k0_pay2]
  have e : pos t ⟨510 + y1.val, by omega⟩ = ⟨2046 + y1.val, by omega⟩ := Fin.ext (by dsimp only; omega)
  show _ = column (weights m c) (row m c (seq t) ⟨2046 + y1.val, by omega⟩) ⟨512 + y2.val, by omega⟩
    * column (weights m c) (row m c (seq t) ⟨2046 + y1.val, by omega⟩) ⟨y2.val, by omega⟩
  rw [← e]
  unfold column
  refine congrArg₂ (· * ·) (Finset.sum_congr rfl fun k _ => ?_) (Finset.sum_congr rfl fun k _ => ?_)
  · exact congrArg₂ (· * ·) (inputBlock m c t _ k) ((weightBlock m c t k _).trans (firstColumns m c k ⟨512 + y2.val, by omega⟩))
  · exact congrArg₂ (· * ·) (inputBlock m c t _ k) ((weightBlock m c t k _).trans (firstColumns m c k ⟨y2.val, by omega⟩))

end Cert.InProjIdeal.Parts

end
-- ==== Proof.InProj.Heads.lean ====
module

public import proofs.«01_k».proof.Proof.InProj.Blocks

@[expose] public section

set_option maxRecDepth 16384

noncomputable section

open Idealize.ShloMosaic Idealize.ShloMosaic.TcCoe Idealize.SL.Sem
open Cert.InProjParts

namespace Cert.InProjIdeal.Parts

open Cert.InProjIdeal Cert.InProjIdeal.Gen

variable (m : (ℓ : Loc nD τ sig) → Buf (Elt Ideal) ℓ)

/-- A head's entry from the head's products `T` and the tables. -/
def half (T : Fin 64 → EReal) (C S : FVec Ideal S32x512 .f32) (d : Fin 64) (r : Fin 512) : EReal :=
  if hd : d.val < 32 then
    T d * C (ix2 ⟨d.val, hd⟩ r) - T ⟨d.val + 32, by omega⟩ * S (ix2 ⟨d.val, hd⟩ r)
  else
    T ⟨d.val - 32, by omega⟩ * S (ix2 ⟨d.val - 32, by omega⟩ r) + T d * C (ix2 ⟨d.val - 32, by omega⟩ r)

theorem half_eq (T U : Fin 64 → EReal) (p : BitVec 32) (C S : FVec Ideal S32x512 .f32) (r : Fin 512) (fT : ∀ d, T d = U d)
    (fC : ∀ e : Fin 32, C (ix2 e r) = Ideal.cos (angle p e.val))
    (fS : ∀ e : Fin 32, S (ix2 e r) = Ideal.sin (angle p e.val)) (d : Fin 64) : half T C S d r = turned U p d := by
  unfold half
  split
  · next hd =>
    rw [fT, fT, fC, fS]
    exact turned_low U p d _ _ _ hd rfl rfl fun g hg => congrArg U (Fin.ext (by dsimp only; omega))
  · next hd =>
    rw [fT, fT, fC, fS]
    exact turned_high U p d _ _ _ hd rfl (fun g hg => congrArg U (Fin.ext (by dsimp only; omega))) rfl

theorem cosineRead (c : Dev nD) (t : Fin cfg0.N) (e : Fin 32) (r : Fin 512) :
    k0_pay5 (iblk m c 5 t) (ix2 e r) = Ideal.cos (angle (place (pos t r).val) e.val) := by
  pointwise [k0_pay5]
  exact cosineBlock m c t e r

theorem sineRead (c : Dev nD) (t : Fin cfg0.N) (e : Fin 32) (r : Fin 512) :
    k0_pay6 (iblk m c 6 t) (ix2 e r) = Ideal.sin (angle (place (pos t r).val) e.val) := by
  pointwise [k0_pay6]
  exact sineBlock m c t e r

set_option maxHeartbeats 1600000 in
theorem keys_A (c : Dev nD) (t : Fin cfg0.N) (h0 : t.val % 4 = 0) (y0 : Fin 1) (y1 : Fin 8) (y2 : Fin 64) (y3 : Fin 512) :
    (show FVec Ideal S1x8x64x512 .f32 from (outsAt0 m c t.val t.isLt).2.2.2.2.2.1) (ix4 y0 y1 y2 y3)
      = keysOut m c (ix4 (seq t) y1 y2 (pos t y3)) := by
  rw [outsAt0_A m c t h0]
  frame_out
  generalize hP : k0_pay33 (k0_pay2 (iblk m c 0 t)) _ = P
  generalize hC : k0_pay5 (iblk m c 5 t) = C
  generalize hS : k0_pay6 (iblk m c 6 t) = S
  have fP : ∀ q r : Fin 512, P (ix2 q r) = column (weights m c) (row m c (seq t) (pos t r)) ⟨1280 + q.val, by omega⟩ := by
    intro q r
    rw [← hP]
    pointwise [k0_pay33, k0_pay2]
    unfold column
    refine Finset.sum_congr rfl fun k _ => ?_
    rw [mul_comm]
    exact congrArg₂ (· * ·) (inputBlock m c t r k) ((rowBlock m c t k _).trans (keyRows m c k q))
  refine Eq.trans (b := half (fun d => P (ix2 ⟨y1.val * 64 + d.val, by omega⟩ y3)) C S y2 y3) ?_
    (half_eq _ (key (weights m c) (row m c (seq t) (pos t y3)) y1) (place (pos t y3).val) C S y3 (fun d => fP _ y3)
      (fun e => by rw [← hC]; exact cosineRead m c t e y3) (fun e => by rw [← hS]; exact sineRead m c t e y3) y2)
  clear fP hP hC hS h0
  unfold half
  canon_tiles x h
  all_goals
    have e1 : y1.val = _ := h1
    have e2 : y2.val = _ := h2
    have e3 : y3.val = _ := h3
    open_payloads
    pointwise
    first
      | rw [dif_pos (show y2.val < 32 by omega)]
        refine congrArg₂ (· - ·) (congrArg₂ (· * ·) ?_ ?_) (congrArg₂ (· * ·) ?_ ?_) <;> blk_ext
      | rw [dif_neg (show ¬ y2.val < 32 by omega)]
        refine congrArg₂ (· + ·) (congrArg₂ (· * ·) ?_ ?_) (congrArg₂ (· * ·) ?_ ?_) <;> blk_ext

set_option maxHeartbeats 1600000 in
theorem keys_B (c : Dev nD) (t : Fin cfg0.N) (h0 : ¬ t.val % 4 = 0) (y0 : Fin 1) (y1 : Fin 8) (y2 : Fin 64) (y3 : Fin 512) :
    (show FVec Ideal S1x8x64x512 .f32 from (outsAt0 m c t.val t.isLt).2.2.2.2.2.1) (ix4 y0 y1 y2 y3)
      = keysOut m c (ix4 (seq t) y1 y2 (pos t y3)) := by
  rw [outsAt0_B m c t h0]
  frame_out
  generalize hP : k0_pay33 (k0_pay2 (iblk m c 0 t)) _ = P
  generalize hC : k0_pay5 (iblk m c 5 t) = C
  generalize hS : k0_pay6 (iblk m c 6 t) = S
  have fP : ∀ q r : Fin 512, P (ix2 q r) = column (weights m c) (row m c (seq t) (pos t r)) ⟨1280 + q.val, by omega⟩ := by
    intro q r
    rw [← hP]
    pointwise [k0_pay33, k0_pay2]
    unfold column
    refine Finset.sum_congr rfl fun k _ => ?_
    rw [mul_comm]
    exact congrArg₂ (· * ·) (inputBlock m c t r k) ((rowBlock m c t k _).trans (keyRows m c k q))
  refine Eq.trans (b := half (fun d => P (ix2 ⟨y1.val * 64 + d.val, by omega⟩ y3)) C S y2 y3) ?_
    (half_eq _ (key (weights m c) (row m c (seq t) (pos t y3)) y1) (place (pos t y3).val) C S y3 (fun d => fP _ y3)
      (fun e => by rw [← hC]; exact cosineRead m c t e y3) (fun e => by rw [← hS]; exact sineRead m c t e y3) y2)
  clear fP hP hC hS h0
  unfold half
  canon_tiles x h
  all_goals
    have e1 : y1.val = _ := h1
    have e2 : y2.val = _ := h2
    have e3 : y3.val = _ := h3
    open_payloads
    pointwise
    first
      | rw [dif_pos (show y2.val < 32 by omega)]
        refine congrArg₂ (· - ·) (congrArg₂ (· * ·) ?_ ?_) (congrArg₂ (· * ·) ?_ ?_) <;> blk_ext
      | rw [dif_neg (show ¬ y2.val < 32 by omega)]
        refine congrArg₂ (· + ·) (congrArg₂ (· * ·) ?_ ?_) (congrArg₂ (· * ·) ?_ ?_) <;> blk_ext

set_option maxHeartbeats 1600000 in
theorem index_A (c : Dev nD) (t : Fin cfg0.N) (h0 : t.val % 4 = 0) (y0 : Fin 1) (y1 : Fin 64) (y2 : Fin 512) :
    (show FVec Ideal S1x64x512 .f32 from (outsAt0 m c t.val t.isLt).2.2.2.2.2.2.2.2.2.1) (ix3 y0 y1 y2)
      = indexOut m c (ix3 (seq t) y1 (pos t y2)) := by
  rw [outsAt0_A m c t h0]
  frame_out
  simp only [k0_pay197, k0_pay198, k0_pay195, k0_pay196]
  generalize hP : k0_pay194 (k0_pay2 (iblk m c 0 t)) _ = P
  generalize hC : k0_pay5 (iblk m c 5 t) = C
  generalize hS : k0_pay6 (iblk m c 6 t) = S
  have fP : ∀ (q : Fin 64) (r : Fin 512), P (ix2 q r) = column (weights m c) (row m c (seq t) (pos t r)) ⟨2816 + q.val, by omega⟩ := by
    intro q r
    rw [← hP]
    pointwise [k0_pay194, k0_pay2]
    unfold column
    refine Finset.sum_congr rfl fun k _ => ?_
    rw [mul_comm]
    exact congrArg₂ (· * ·) (inputBlock m c t r k) ((rowBlock m c t k _).trans (indexRows m c k q))
  refine Eq.trans (b := half (fun d => P (ix2 d y2)) C S y1 y2) ?_
    (half_eq _ (indexKey (weights m c) (row m c (seq t) (pos t y2))) (place (pos t y2).val) C S y2 (fun d => fP d y2)
      (fun e => by rw [← hC]; exact cosineRead m c t e y2) (fun e => by rw [← hS]; exact sineRead m c t e y2) y1)
  clear fP hP hC hS h0
  unfold half
  canon_tiles x h
  all_goals
    have e1 : y1.val = _ := h1
    have e2 : y2.val = _ := h2
    open_payloads
    pointwise
    first
      | rw [dif_pos (show y1.val < 32 by omega)]
        refine congrArg₂ (· - ·) (congrArg₂ (· * ·) ?_ ?_) (congrArg₂ (· * ·) ?_ ?_) <;> blk_ext
      | rw [dif_neg (show ¬ y1.val < 32 by omega)]
        refine congrArg₂ (· + ·) (congrArg₂ (· * ·) ?_ ?_) (congrArg₂ (· * ·) ?_ ?_) <;> blk_ext

set_option maxHeartbeats 1600000 in
theorem index_B (c : Dev nD) (t : Fin cfg0.N) (h0 : ¬ t.val % 4 = 0) (y0 : Fin 1) (y1 : Fin 64) (y2 : Fin 512) :
    (show FVec Ideal S1x64x512 .f32 from (outsAt0 m c t.val t.isLt).2.2.2.2.2.2.2.2.2.1) (ix3 y0 y1 y2)
      = indexOut m c (ix3 (seq t) y1 (pos t y2)) := by
  rw [outsAt0_B m c t h0]
  frame_out
  simp only [k0_pay197, k0_pay198, k0_pay195, k0_pay196]
  generalize hP : k0_pay194 (k0_pay2 (iblk m c 0 t)) _ = P
  generalize hC : k0_pay5 (iblk m c 5 t) = C
  generalize hS : k0_pay6 (iblk m c 6 t) = S
  have fP : ∀ (q : Fin 64) (r : Fin 512), P (ix2 q r) = column (weights m c) (row m c (seq t) (pos t r)) ⟨2816 + q.val, by omega⟩ := by
    intro q r
    rw [← hP]
    pointwise [k0_pay194, k0_pay2]
    unfold column
    refine Finset.sum_congr rfl fun k _ => ?_
    rw [mul_comm]
    exact congrArg₂ (· * ·) (inputBlock m c t r k) ((rowBlock m c t k _).trans (indexRows m c k q))
  refine Eq.trans (b := half (fun d => P (ix2 d y2)) C S y1 y2) ?_
    (half_eq _ (indexKey (weights m c) (row m c (seq t) (pos t y2))) (place (pos t y2).val) C S y2 (fun d => fP d y2)
      (fun e => by rw [← hC]; exact cosineRead m c t e y2) (fun e => by rw [← hS]; exact sineRead m c t e y2) y1)
  clear fP hP hC hS h0
  unfold half
  canon_tiles x h
  all_goals
    have e1 : y1.val = _ := h1
    have e2 : y2.val = _ := h2
    open_payloads
    pointwise
    first
      | rw [dif_pos (show y1.val < 32 by omega)]
        refine congrArg₂ (· - ·) (congrArg₂ (· * ·) ?_ ?_) (congrArg₂ (· * ·) ?_ ?_) <;> blk_ext
      | rw [dif_neg (show ¬ y1.val < 32 by omega)]
        refine congrArg₂ (· + ·) (congrArg₂ (· * ·) ?_ ?_) (congrArg₂ (· * ·) ?_ ?_) <;> blk_ext

theorem keysArr (c : Dev nD) : (dats m 0 c).arrAt 15 cfg0.N = keysOut m c := by
  refine (dats m 0 c).arrAt_eq_of_covers 15 _ (by decide +kernel) fun t _ (y : S1x8x64x512.Idx) => ?_
  blk_simp
  rw [after0_15]
  idx_vars y
  refine Eq.trans (b := keysOut m c (ix4 (seq t) y1 y2 (pos t y3))) ?_ (by blk_ext [idx t])
  by_cases h0 : t.val % 4 = 0
  · exact keys_A m c t h0 y0 y1 y2 y3
  · exact keys_B m c t h0 y0 y1 y2 y3

theorem indexArr (c : Dev nD) : (dats m 0 c).arrAt 19 cfg0.N = indexOut m c := by
  refine (dats m 0 c).arrAt_eq_of_covers 19 _ (by decide +kernel) fun t _ (y : S1x64x512.Idx) => ?_
  blk_simp
  rw [after0_19]
  idx_vars y
  refine Eq.trans (b := indexOut m c (ix3 (seq t) y1 (pos t y2))) ?_ (by blk_ext [idx t])
  by_cases h0 : t.val % 4 = 0
  · exact index_A m c t h0 y0 y1 y2
  · exact index_B m c t h0 y0 y1 y2

end Cert.InProjIdeal.Parts

end
-- ==== Proof.InProj.Reference.lean ====
module

public import proofs.«01_k».proof.Defs
public import proofs.«01_k».proof.Proof.Gen.InProjRefIdeal.Run
public import proofs.«01_k».proof.Proof.Gen.InProjRefIdeal.Read
public import proofs.«01_k».proof.Proof.InProj.Rotation
public import Idealize.ShloMosaic.Lib.Pointwise
public import Idealize.ShloMosaic.Lib.Pipeline.ValueKit
public import Idealize.ShloMosaic.Lib.Pipeline.ReadBack
public import Idealize.ShloMosaic.Lib.WordCmp
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

open Cert.InProjParts

namespace Cert.InProjRefIdeal.Parts

open Cert.InProjRefIdeal Cert.InProjRefIdeal.Gen Cert.InProjRefIdeal.Read

theorem keys (x : FVec Ideal S16x2048x1024 .f32) (w : FVec Ideal S1x1024x6216 .f32) (i : Fin 16) (p : Fin 2048) (h : Fin 8)
    (d : Fin 64) : val_main_v37 (F := Ideal) x w (ix4 i p h d)
      = turned (key w (fun k => x (ix3 i p k)) h) (BitVec.ofNat 32 p.val) d := by
  pointwise [turned, key, column, angle, val_main_cst, val_main_cst_0,
      val_main_v0, val_main_v1, val_main_v2, val_main_v3, val_main_v4, val_main_v5, val_main_v6, val_main_v7, val_main_v8, val_main_v9, val_main_v10, val_main_v11, val_main_v12, val_main_v13,
      val_main_v14, val_main_v15, val_main_v16, val_main_v17, val_main_v18, val_main_v19, val_main_v20, val_main_v21, val_main_v22, val_main_v23, val_main_v24, val_main_v25, val_main_v26,
      val_main_v27, val_main_v28, val_main_v29, val_main_v30, val_main_v31, val_main_v32, val_main_v33, val_main_v34, val_main_v35, val_main_v36, val_main_v37]

theorem values (x : FVec Ideal S16x2048x1024 .f32) (w : FVec Ideal S1x1024x6216 .f32) (i : Fin 16) (p : Fin 2048) (h : Fin 8)
    (d : Fin 64) : val_main_v39 (F := Ideal) x w (ix4 i p h d) = value w (fun k => x (ix3 i p k)) h d := by
  pointwise [value, column, val_main_v1, val_main_v2, val_main_v38, val_main_v39]

theorem indexKeys (x : FVec Ideal S16x2048x1024 .f32) (w : FVec Ideal S1x1024x6216 .f32) (i : Fin 16) (p : Fin 2048)
    (d : Fin 64) : val_main_v75 (F := Ideal) x w (ix3 i p d)
      = turned (indexKey w (fun k => x (ix3 i p k))) (BitVec.ofNat 32 p.val) d := by
  pointwise [turned, indexKey, column, angle, val_main_cst_1, val_main_cst_2, val_main_v0, val_main_v1, val_main_v2,
      val_main_v40, val_main_v41, val_main_v42, val_main_v43, val_main_v44, val_main_v45, val_main_v46, val_main_v47, val_main_v48, val_main_v49, val_main_v50, val_main_v51, val_main_v52,
      val_main_v53, val_main_v54, val_main_v55, val_main_v56, val_main_v57, val_main_v58, val_main_v59, val_main_v60, val_main_v61, val_main_v62, val_main_v63, val_main_v64,
      val_main_v65, val_main_v66, val_main_v67, val_main_v68, val_main_v69, val_main_v70, val_main_v71, val_main_v72, val_main_v73, val_main_v74, val_main_v75]

theorem newest (x : FVec Ideal S16x2048x1024 .f32) (w : FVec Ideal S1x1024x6216 .f32) (i : Fin 16) (r : Fin 2) (j : Fin 256) :
    val_main_v81 (F := Ideal) x w (ix3 i r j) = taken w (fun k => x (ix3 i ⟨2046 + r.val, by omega⟩ k)) j := by
  pointwise [taken, column, val_main_v1, val_main_v2, val_main_cst_3,
      val_main_v76, val_main_v77, val_main_v78, val_main_v79, val_main_v80, val_main_v81]
  have hr : ¬ 2048 + r.val < 2 := by omega
  have e : (⟨2048 + r.val - 2, by omega⟩ : Fin 2048) = ⟨2046 + r.val, by omega⟩ := Fin.ext (by dsimp only; omega)
  rw [dif_neg hr, e]

end Cert.InProjRefIdeal.Parts

end
-- ==== Proof.InProj.Results.lean ====
module

public import proofs.«01_k».proof.Proof.InProj.Arrays
public import proofs.«01_k».proof.Proof.InProj.Heads
public import proofs.«01_k».proof.Proof.InProj.Reference

@[expose] public section

set_option maxRecDepth 16384

noncomputable section

open Idealize.ShloMosaic Idealize.ShloMosaic.TcCoe Idealize.SL.Sem
open Cert.InProjParts

namespace Cert.InProjIdeal.Parts

open Cert.InProjIdeal Cert.InProjIdeal.Gen

variable (m : (ℓ : Loc nD τ sig) → Buf (Elt Ideal) ℓ) (ρ : Dev nD → PrngReg)

/-! ### The results, after the transposes that follow the call -/

theorem apart : Function.Injective (Pipeline.arrRef spec0) := by decide +kernel

theorem result0 (c : Dev nD) : Pipeline.afterTail₀ cfgs (dats m) 0 (V0 m) [hostOps1] c main_v51
    = transpose S16x2048x8x64 [0, 3, 1, 2] (keysOut m c) transposes_S16x8x64x2048_S16x2048x8x64_0_3_1_2 := by
  unfold Pipeline.afterTail₀
  rw [List.flatten_singleton]
  entry_read
  exact congrArg (fun A => transpose S16x2048x8x64 [0, 3, 1, 2] A transposes_S16x8x64x2048_S16x2048x8x64_0_3_1_2)
    ((Pipeline.withArrays_arr spec0 apart c (V0 m c) (fun w => (dats m 0 c).arrAt w cfg0.N) 15).trans (keysArr m c))

theorem result1 (c : Dev nD) : Pipeline.afterTail₀ cfgs (dats m) 0 (V0 m) [hostOps1] c main_v52
    = transpose S16x2048x8x64 [0, 3, 1, 2] (valuesOut m c) transposes_S16x8x64x2048_S16x2048x8x64_0_3_1_2 := by
  unfold Pipeline.afterTail₀
  rw [List.flatten_singleton]
  entry_read
  exact congrArg (fun A => transpose S16x2048x8x64 [0, 3, 1, 2] A transposes_S16x8x64x2048_S16x2048x8x64_0_3_1_2)
    ((Pipeline.withArrays_arr spec0 apart c (V0 m c) (fun w => (dats m 0 c).arrAt w cfg0.N) 16).trans (valuesArr m c))

theorem result2 (c : Dev nD) : Pipeline.afterTail₀ cfgs (dats m) 0 (V0 m) [hostOps1] c main_v53
    = transpose S16x2048x64 [0, 2, 1] (indexOut m c) transposes_S16x64x2048_S16x2048x64_0_2_1 := by
  unfold Pipeline.afterTail₀
  rw [List.flatten_singleton]
  entry_read
  exact congrArg (fun A => transpose S16x2048x64 [0, 2, 1] A transposes_S16x64x2048_S16x2048x64_0_2_1)
    ((Pipeline.withArrays_arr spec0 apart c (V0 m c) (fun w => (dats m 0 c).arrAt w cfg0.N) 19).trans (indexArr m c))

/-! ### They are the reference's -/

theorem keys_agree (c : Dev nD) :
    transpose S16x2048x8x64 [0, 3, 1, 2] (keysOut m c) transposes_S16x8x64x2048_S16x2048x8x64_0_3_1_2
      = Cert.InProjRefIdeal.Read.val_main_v37 (F := Ideal) (m ((c : Thread nD τ).loc main_arg0)) (weights m c) := by
  funext i
  idx_vars i
  refine Eq.trans ?_ (Cert.InProjRefIdeal.Parts.keys _ _ i0 i1 i2 i3).symm
  refine Eq.trans (b := keysOut m c (ix4 i0 i2 i3 i1)) ?_ rfl
  pointwise

theorem values_agree (c : Dev nD) :
    transpose S16x2048x8x64 [0, 3, 1, 2] (valuesOut m c) transposes_S16x8x64x2048_S16x2048x8x64_0_3_1_2
      = Cert.InProjRefIdeal.Read.val_main_v39 (F := Ideal) (m ((c : Thread nD τ).loc main_arg0)) (weights m c) := by
  funext i
  idx_vars i
  refine Eq.trans ?_ (Cert.InProjRefIdeal.Parts.values _ _ i0 i1 i2 i3).symm
  refine Eq.trans (b := valuesOut m c (ix4 i0 i2 i3 i1)) ?_ rfl
  pointwise

theorem index_agree (c : Dev nD) :
    transpose S16x2048x64 [0, 2, 1] (indexOut m c) transposes_S16x64x2048_S16x2048x64_0_2_1
      = Cert.InProjRefIdeal.Read.val_main_v75 (F := Ideal) (m ((c : Thread nD τ).loc main_arg0)) (weights m c) := by
  funext i
  idx_vars i
  refine Eq.trans ?_ (Cert.InProjRefIdeal.Parts.indexKeys _ _ i0 i1 i2).symm
  refine Eq.trans (b := indexOut m c (ix3 i0 i2 i1)) ?_ rfl
  pointwise

theorem states_agree (c : Dev nD) : statesOut m c
    = Cert.InProjRefIdeal.Read.val_main_v81 (F := Ideal) (m ((c : Thread nD τ).loc main_arg0)) (weights m c) := by
  funext i
  idx_vars i
  exact (Cert.InProjRefIdeal.Parts.newest _ _ i0 i1 i2).symm

/-- The launch ends with the four results and its arguments as they were. -/
theorem run_results : θ_run (defs (F := Ideal)) (onTc (τ := τ) (main (F := Ideal))) ⟨m, fun _ => 0, ρ⟩ (fun r => ∀ c : Dev nD,
      (r.2.mem ((c.tc : Thread nD τ).loc main_v51) = Pipeline.afterTail₀ cfgs (dats m) 0 (V0 m) [hostOps1] c main_v51
      ∧ r.2.mem ((c.tc : Thread nD τ).loc main_v52) = Pipeline.afterTail₀ cfgs (dats m) 0 (V0 m) [hostOps1] c main_v52
      ∧ r.2.mem ((c.tc : Thread nD τ).loc main_v53) = Pipeline.afterTail₀ cfgs (dats m) 0 (V0 m) [hostOps1] c main_v53
      ∧ r.2.mem ((c.tc : Thread nD τ).loc main_v50_11) = statesOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c =>
    ⟨⟨(h.1 c).2 main_v51 (Pipeline.mem_restRefs_of main_v51 (by decide) (by decide)),
      (h.1 c).2 main_v52 (Pipeline.mem_restRefs_of main_v52 (by decide) (by decide)),
      (h.1 c).2 main_v53 (Pipeline.mem_restRefs_of main_v53 (by decide) (by decide)),
      ((h.1 c).1 21).trans (statesArr m c)⟩, h.2 c⟩)
    (θ_run_and (run_main m ρ) (unchanged m ρ))

end Cert.InProjIdeal.Parts

namespace Cert.InProjProof

/-- The reference leaves its arguments unchanged and ends with every counter at zero. -/
theorem frame_reference : Cert.quiescent_InProjRefIdeal (hInProjRefIdeal := Cert.InProjRefIdeal.Gen.facts) :=
  fun m ρ _ => (θ_run _ _ _).mono
    (fun r h => ⟨fun c => (h c).2.2.2.2, sem_eq_zero_of_no_sems (by decide) _⟩)
    (Cert.InProjRefIdeal.Value.run (F := Ideal) m ρ)

/-- Both programs end with the keys, the values, the index keys and the states of the convolution. -/
theorem same_results : Cert.algebraic_InProjIdeal_InProjRefIdeal
    (hInProjIdeal := Cert.InProjIdeal.Gen.facts)
    (hInProjRefIdeal := Cert.InProjRefIdeal.Gen.facts) := by
  intro m g m' g' _ hargs
  refine ⟨_, _, _, _, (θ_run _ _ _).mono (fun r h c => ⟨(h c).1.1, (h c).1.2.1, (h c).1.2.2.1, (h c).1.2.2.2, (h c).2⟩)
    (Cert.InProjIdeal.Parts.run_results m g), (θ_run _ _ _).mono (fun r h c => ?_)
    (Cert.InProjRefIdeal.Value.run (F := Ideal) m' g')⟩
  obtain ⟨h0, h1, h2, h3, ha⟩ := h c
  obtain ⟨e0, e1, e2, e3, e4⟩ := hargs c
  refine ⟨h0.trans ?_, h1.trans ?_, h2.trans ?_, h3.trans ?_, ha⟩
  · rw [Cert.InProjRefIdeal.Read.val_main_v37_eq m' c, e0, e1]
    exact (Cert.InProjIdeal.Parts.keys_agree m c).symm.trans (Cert.InProjIdeal.Parts.result0 m c).symm
  · rw [e0, e1]
    exact (Cert.InProjIdeal.Parts.values_agree m c).symm.trans (Cert.InProjIdeal.Parts.result1 m c).symm
  · rw [Cert.InProjRefIdeal.Read.val_main_v75_eq m' c, e0, e1]
    exact (Cert.InProjIdeal.Parts.index_agree m c).symm.trans (Cert.InProjIdeal.Parts.result2 m c).symm
  · rw [e0, e1]
    exact (Cert.InProjIdeal.Parts.states_agree m c).symm

end Cert.InProjProof

end
-- ==== Proof.InProj.SampleBlocks.lean ====
module

public import proofs.«01_k».proof.Defs
public import proofs.«01_k».proof.Proof.Gen.SampleInProjIdeal.Frame
public import proofs.«01_k».proof.Proof.Gen.SampleInProjRefIdeal.Run
public import proofs.«01_k».proof.Proof.Gen.SampleInProjRefIdeal.Read
public import proofs.«01_k».proof.Proof.InProj.Rotation
public import Idealize.ShloMosaic.Lib.Pointwise
public import Idealize.ShloMosaic.Lib.Pipeline.ValueKit
public import Idealize.ShloMosaic.Lib.Pipeline.ReadBack
public import Idealize.ShloMosaic.Lib.WordCmp
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

open Cert.InProjParts

namespace Cert.SampleInProjIdeal.Parts

open Cert.SampleInProjIdeal Cert.SampleInProjIdeal.Gen

variable (m : (ℓ : Loc nD τ sig) → Buf (Elt Ideal) ℓ)

/-- The position of the sample, as a word. -/
abbrev here : BitVec 32 := IntOp.addi 16384#32 0#32

/-- One cosine table entry. -/
theorem cosines (c : Dev nD) (j : Fin 128) : (V m c main_v16 : FVec Ideal S1x128 .f32) (ix2 0 j)
    = Ideal.cos (angle here (j.val % 32)) := by
  unfold V V0
  rw [List.flatten_singleton]
  after_reads_simp
  pointwise
  after_reads_simp
  pointwise
  simp only [angle_eq]
  split_ifs <;> exact cos_at (by omega)

/-- One signed sine table entry. -/
theorem sines (c : Dev nD) (j : Fin 128) : (V m c main_v18 : FVec Ideal S1x128 .f32) (ix2 0 j)
    = signed here j.val := by
  unfold V V0
  rw [List.flatten_singleton]
  after_reads_simp
  pointwise
  after_reads_simp
  pointwise
  simp only [angle_eq, signed]
  split_ifs <;> first | omega | exact sin_at (by omega) | exact congrArg (fun q : EReal => -q) (sin_at (by omega))

/-- The packed weights' first columns, for the convolution. -/
theorem firstColumns (c : Dev nD) (a : Fin 1024) (j : Fin 768) :
    (V m c main_v45 : FVec Ideal S1024x1664 .bf16) (ix2 a ⟨j.val, by omega⟩)
      = m ((c : Thread nD τ).loc main_arg1) (ix3 0 a ⟨j.val, by omega⟩) := by
  unfold V V0
  rw [List.flatten_singleton]
  after_reads_simp
  pointwise
  after_reads_simp
  pointwise
  have hj := j.isLt
  by_cases h1 : j.val < 256
  · rw [dif_pos h1]
  rw [dif_neg h1]
  by_cases h2 : j.val - 256 < 256
  · rw [dif_pos h2]; exact weight_at (m ((c : Thread nD τ).loc main_arg1)) a (by dsimp only; omega)
  rw [dif_neg h2, dif_pos (by omega)]
  exact weight_at (m ((c : Thread nD τ).loc main_arg1)) a (by dsimp only; omega)

/-- The packed weights' columns of the keys. -/
theorem keyColumns (c : Dev nD) (a : Fin 1024) (j : Fin 512) :
    (V m c main_v45 : FVec Ideal S1024x1664 .bf16) (ix2 a ⟨768 + j.val, by omega⟩)
      = m ((c : Thread nD τ).loc main_arg1) (ix3 0 a ⟨1280 + j.val, by omega⟩) := by
  unfold V V0
  rw [List.flatten_singleton]
  after_reads_simp
  pointwise
  after_reads_simp
  pointwise
  rw [dif_neg (by omega), dif_neg (by omega), dif_neg (by omega), dif_pos (by omega)]
  exact weight_at (m ((c : Thread nD τ).loc main_arg1)) a (by dsimp only; omega)

/-- The packed weights' columns of the index key. -/
theorem indexColumns (c : Dev nD) (a : Fin 1024) (j : Fin 64) :
    (V m c main_v45 : FVec Ideal S1024x1664 .bf16) (ix2 a ⟨1280 + j.val, by omega⟩)
      = m ((c : Thread nD τ).loc main_arg1) (ix3 0 a ⟨2816 + j.val, by omega⟩) := by
  unfold V V0
  rw [List.flatten_singleton]
  after_reads_simp
  pointwise
  after_reads_simp
  pointwise
  rw [dif_neg (by omega), dif_neg (by omega), dif_neg (by omega), dif_neg (by omega), dif_pos (by omega)]
  exact weight_at (m ((c : Thread nD τ).loc main_arg1)) a (by dsimp only; omega)

/-- The rows of the transposed weights that hold the values. -/
theorem valueRows (c : Dev nD) (a : Fin 1024) (j : Fin 512) :
    (V m c main_v49 : FVec Ideal S2128x1024 .bf16) (ix2 ⟨1536 + j.val, by omega⟩ a)
      = m ((c : Thread nD τ).loc main_arg1) (ix3 0 a ⟨1792 + j.val, by omega⟩) := by
  unfold V V0
  rw [List.flatten_singleton]
  after_reads_simp
  pointwise
  after_reads_simp
  pointwise
  rw [dif_neg (by omega), dif_neg (by omega), dif_neg (by omega), dif_pos (by omega)]
  exact weight_at (m ((c : Thread nD τ).loc main_arg1)) a (by dsimp only; omega)

/-- The keys of one block: each head's product, turned. -/
theorem keyBlock (x : FVec Ideal S32x1024 .bf16) (cs sn : FVec Ideal S1x128 .f32) (w : Vec Ideal S1024x512 .bf16)
    (hc : ∀ j : Fin 128, cs (ix2 0 j) = Ideal.cos (angle here (j.val % 32)))
    (hs : ∀ j : Fin 128, sn (ix2 0 j) = signed here j.val)
    (b : Fin 32) (h : Fin 8) (d : Fin 64) :
    k0_pay11 x cs sn w (ix2 b ⟨h.val * 64 + d.val, by omega⟩)
      = turned (fun e => ∑ k : Fin 1024, x (ix2 b k) * w (ix2 k ⟨h.val * 64 + e.val, by omega⟩)) here d := by
  pointwise [k0_pay11]
  rw [select_low_lane ⟨h.val * 64 + d.val, by omega⟩]
  refine turned_eq (fun e => ∑ k : Fin 1024, x (ix2 b k) * w (ix2 k ⟨h.val * 64 + e.val, by omega⟩)) here d _ _ _ ?_ ?_ ?_
  · intro e he
    split_ifs with h1 <;> refine Finset.sum_congr rfl fun k _ => congrArg (fun q => x (ix2 b k) * w (ix2 k q)) (Fin.ext ?_)
    all_goals (dsimp only at h1 ⊢; omega)
  · split_ifs <;> rw [hc] <;> exact cos_at (by dsimp only; omega)
  · split_ifs <;> rw [hs] <;> exact signed_at (by dsimp only; omega)

/-- The index keys of one block: the product, turned. -/
theorem indexBlock (x : FVec Ideal S32x1024 .bf16) (cs sn : FVec Ideal S1x128 .f32) (w : Vec Ideal S1024x128 .bf16)
    (hc : ∀ j : Fin 128, cs (ix2 0 j) = Ideal.cos (angle here (j.val % 32)))
    (hs : ∀ j : Fin 128, sn (ix2 0 j) = signed here j.val)
    (b : Fin 32) (d : Fin 64) :
    k0_pay1 sn (k0_pay15 x w) (k0_pay16 x cs w) (ix2 b d)
      = turned (fun e => ∑ k : Fin 1024, x (ix2 b k) * w (ix2 k ⟨e.val, by omega⟩)) here d := by
  pointwise [k0_pay1, k0_pay14, k0_pay15, k0_pay16]
  rw [select_low_lane ⟨d.val, by omega⟩]
  refine turned_eq (fun e => ∑ k : Fin 1024, x (ix2 b k) * w (ix2 k ⟨e.val, by omega⟩)) here d _ _ _ ?_ ?_ ?_
  · intro e he
    split_ifs with h1 <;> refine Finset.sum_congr rfl fun k _ => congrArg (fun q => x (ix2 b k) * w (ix2 k q)) (Fin.ext ?_)
    all_goals (dsimp only at h1 ⊢; omega)
  · rw [hc]
  · rw [hs]

/-- The rows of the launch. -/
theorem inputs (c : Dev nD) (b : Fin 32) (k : Fin 1024) : (V m c main_v51 : FVec Ideal S32x1024 .f32) (ix2 b k)
    = m ((c : Thread nD τ).loc main_arg0) (ix3 b 0 k) := by
  unfold V V0
  rw [List.flatten_singleton]
  after_reads_simp
  pointwise

/-- The one grid point stages every array whole. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_9.index t = ![0, 0] ∧ win0_11.index t = ![0, 0]
    ∧ win0_12.index t = ![0, 0] ∧ win0_14.index t = ![0, 0] :=
  (by decide +kernel : ∀ t : Fin grid0.N, _)

/-- The row of sample `b`. -/
abbrev row (c : Dev nD) (b : Fin 32) : Fin 1024 → EReal := fun k => m ((c : Thread nD τ).loc main_arg0) (ix3 b 0 k)

/-- The projection's weights as launched. -/
abbrev weights (c : Dev nD) : FVec Ideal S1x1024x6216 .f32 := m ((c : Thread nD τ).loc main_arg1)

theorem inputBlock (c : Dev nD) (t : Fin cfg0.N) (b : Fin 32) (k : Fin 1024) :
    (show FVec Ideal S32x1024 .f32 from iblk m c 0 t) (ix2 b k) = row m c b k := by
  refine Eq.trans (b := V m c main_v51 (ix2 b k)) ?_ (inputs m c b k)
  blk_point [iblk, idx t]

theorem cosineBlock (c : Dev nD) (t : Fin cfg0.N) (j : Fin 128) :
    (show FVec Ideal S1x128 .f32 from iblk m c 3 t) (ix2 0 j) = Ideal.cos (angle here (j.val % 32)) := by
  refine Eq.trans (b := V m c main_v16 (ix2 0 j)) ?_ (cosines m c j)
  blk_point [iblk, idx t]

theorem sineBlock (c : Dev nD) (t : Fin cfg0.N) (j : Fin 128) :
    (show FVec Ideal S1x128 .f32 from iblk m c 4 t) (ix2 0 j) = signed here j.val := by
  refine Eq.trans (b := V m c main_v18 (ix2 0 j)) ?_ (sines m c j)
  blk_point [iblk, idx t]

theorem weightBlock (c : Dev nD) (t : Fin cfg0.N) (k : Fin 1024) (q : Fin 1664) :
    (show FVec Ideal S1024x1664 .bf16 from iblk m c 1 t) (ix2 k q) = (V m c main_v45 : FVec Ideal S1024x1664 .bf16) (ix2 k q) := by
  blk_point [iblk, idx t]

theorem rowBlock (c : Dev nD) (t : Fin cfg0.N) (k : Fin 1024) (q : Fin 2128) :
    (show FVec Ideal S2128x1024 .bf16 from iblk m c 2 t) (ix2 q k) = (V m c main_v49 : FVec Ideal S2128x1024 .bf16) (ix2 q k) := by
  blk_point [iblk, idx t]

end Cert.SampleInProjIdeal.Parts

namespace Cert.SampleInProjRefIdeal.Parts

open Cert.SampleInProjRefIdeal Cert.SampleInProjRefIdeal.Gen Cert.SampleInProjRefIdeal.Read

theorem keys (x : FVec Ideal S32x1x1024 .f32) (w : FVec Ideal S1x1024x6216 .f32) (b : Fin 32) (h : Fin 8) (d : Fin 64) :
    val_main_v38 (F := Ideal) x w (ix4 b 0 h d)
      = turned (key w (fun k => x (ix3 b 0 k)) h) (IntOp.addi 16384#32 0#32) d := by
  pointwise [turned, key, column, angle,
      val_main_v0, val_main_c, val_main_v1, val_main_v2, val_main_v3, val_main_v4, val_main_v5, val_main_v6,
      val_main_v7, val_main_v8, val_main_cst, val_main_v9, val_main_v10, val_main_cst_0, val_main_v11, val_main_v12,
      val_main_v13, val_main_v14, val_main_v15, val_main_v16, val_main_v17, val_main_v18, val_main_v19,
      val_main_v20, val_main_v21, val_main_v22, val_main_v23, val_main_v24, val_main_v25, val_main_v26,
      val_main_v27, val_main_v28, val_main_v29, val_main_v30, val_main_v31, val_main_v32, val_main_v33,
      val_main_v34, val_main_v35, val_main_v36, val_main_v37, val_main_v38]

theorem values (x : FVec Ideal S32x1x1024 .f32) (w : FVec Ideal S1x1024x6216 .f32) (b : Fin 32) (h : Fin 8) (d : Fin 64) :
    val_main_v40 (F := Ideal) x w (ix4 b 0 h d) = value w (fun k => x (ix3 b 0 k)) h d := by
  pointwise [value, column, val_main_v3, val_main_v4, val_main_v39, val_main_v40]

theorem indexKeys (x : FVec Ideal S32x1x1024 .f32) (w : FVec Ideal S1x1024x6216 .f32) (b : Fin 32) (d : Fin 64) :
    val_main_v75 (F := Ideal) x w (ix3 b 0 d)
      = turned (indexKey w (fun k => x (ix3 b 0 k))) (IntOp.addi 16384#32 0#32) d := by
  pointwise [turned, indexKey, column, angle,
      val_main_v0, val_main_c, val_main_v1, val_main_v2, val_main_v3, val_main_v4, val_main_v5, val_main_v6,
      val_main_v41, val_main_v42, val_main_v43, val_main_v44, val_main_cst_1, val_main_v45, val_main_v46,
      val_main_cst_2, val_main_v47, val_main_v48, val_main_v49, val_main_v50, val_main_v51, val_main_v52,
      val_main_v53, val_main_v54, val_main_v55, val_main_v56, val_main_v57, val_main_v58, val_main_v59,
      val_main_v60, val_main_v61, val_main_v62, val_main_v63, val_main_v64, val_main_v65, val_main_v66,
      val_main_v67, val_main_v68, val_main_v69, val_main_v70, val_main_v71, val_main_v72, val_main_v73,
      val_main_v74, val_main_v75]

theorem kept (x : FVec Ideal S32x1x1024 .f32) (w : FVec Ideal S1x1024x6216 .f32) (s : FVec Ideal S1x32x2x256 .f32)
    (b : Fin 32) (j : Fin 256) : val_main_v81 (F := Ideal) x w s (ix3 b 0 j) = s (ix4 0 b 1 j) := by
  pointwise [taken, column,
      val_main_v3, val_main_v4, val_main_v76, val_main_v77, val_main_v78, val_main_v79, val_main_v80, val_main_v81]

theorem newest (x : FVec Ideal S32x1x1024 .f32) (w : FVec Ideal S1x1024x6216 .f32) (s : FVec Ideal S1x32x2x256 .f32)
    (b : Fin 32) (j : Fin 256) : val_main_v81 (F := Ideal) x w s (ix3 b 1 j) = taken w (fun k => x (ix3 b 0 k)) j := by
  pointwise [taken, column,
      val_main_v3, val_main_v4, val_main_v76, val_main_v77, val_main_v78, val_main_v79, val_main_v80, val_main_v81]

end Cert.SampleInProjRefIdeal.Parts

end
-- ==== Proof.SampleInProjValue.lean ====
module

public import proofs.«01_k».proof.Defs
public import proofs.«01_k».proof.Proof.Gen.SampleInProjIdeal.Frame
public import proofs.«01_k».proof.Proof.Gen.SampleInProjRefIdeal.Run
public import proofs.«01_k».proof.Proof.Gen.SampleInProjRefIdeal.Read
public import proofs.«01_k».proof.Proof.InProj.Rotation
public import Idealize.ShloMosaic.Lib.Pointwise
public import Idealize.ShloMosaic.Lib.Pipeline.ValueKit
public import Idealize.ShloMosaic.Lib.Pipeline.ReadBack
public import Idealize.ShloMosaic.Lib.WordCmp
public import Idealize.ShloMosaic.Lib.Claim
public import Idealize.ShloMosaic.Lib.StableHlo.RunRead
public import proofs.«01_k».proof.Proof.InProj.SampleBlocks

@[expose] public section

set_option maxRecDepth 16384

noncomputable section

open Idealize.ShloMosaic Idealize.ShloMosaic.TcCoe Idealize.SL.Sem
open Idealize.ShloMosaic.Pipeline (Dat)

open Cert.InProjParts

namespace Cert.SampleInProjIdeal.Parts

open Cert.SampleInProjIdeal Cert.SampleInProjIdeal.Gen

variable (m : (ℓ : Loc nD τ sig) → Buf (Elt Ideal) ℓ)

/-- The keys of all samples, a head's 64 entries beside one another. -/
def keysOut (c : Dev nD) : FVec Ideal S32x512 .f32 := fun y =>
  turned (key (weights m c) (row m c (y 0)) ⟨(y 1).val / 64, by have h : (y 1).val < 512 := (y 1).isLt; omega⟩) here
    ⟨(y 1).val % 64, by omega⟩

theorem keysOut_at (c : Dev nD) (b : Fin 32) (h : Fin 8) (d : Fin 64) :
    keysOut m c (ix2 b ⟨h.val * 64 + d.val, by omega⟩) = turned (key (weights m c) (row m c b) h) here d := by
  have e1 : (⟨(h.val * 64 + d.val) / 64, by omega⟩ : Fin 8) = h := Fin.ext (by dsimp only; omega)
  have e2 : (⟨(h.val * 64 + d.val) % 64, by omega⟩ : Fin 64) = d := Fin.ext (by dsimp only; omega)
  show turned (key (weights m c) (row m c b) ⟨(h.val * 64 + d.val) / 64, _⟩) here ⟨(h.val * 64 + d.val) % 64, _⟩ = _
  rw [e1, e2]

theorem keysArr (c : Dev nD) : (dats m 0 c).arrAt 11 cfg0.N = keysOut m c := by
  refine (dats m 0 c).arrAt_eq_of_covers 11 _ (by decide +kernel) fun t hf (y : S32x512.Idx) => ?_
  blk_simp
  rw [after0_11]
  frame_out
  idx_vars y
  obtain ⟨h, d, rfl⟩ : ∃ (h : Fin 8) (d : Fin 64), y1 = ⟨h.val * 64 + d.val, by omega⟩ :=
    ⟨⟨y1.val / 64, by omega⟩, ⟨y1.val % 64, by omega⟩, Fin.ext (by dsimp only; omega)⟩
  refine (keyBlock _ _ _ _ (fun j => ?_) (fun j => ?_) y0 h d).trans ?_
  · pointwise [k0_pay18, k0_pay5]
    exact cosineBlock m c t j
  · pointwise [k0_pay19, k0_pay6]
    exact sineBlock m c t j
  refine Eq.trans (b := keysOut m c (ix2 y0 ⟨h.val * 64 + d.val, by omega⟩)) ?_ (by blk_ext [idx t])
  rw [keysOut_at]
  refine congrArg (fun T : Fin 64 → EReal => turned T here d) (funext fun e => ?_)
  unfold key column
  refine Finset.sum_congr rfl fun k _ => ?_
  refine congrArg₂ (· * ·) ?_ ?_
  · pointwise [k0_pay17, k0_pay4]
    exact inputBlock m c t y0 k
  · pointwise [r0_7]
    exact (weightBlock m c t k _).trans (keyColumns m c k ⟨h.val * 64 + e.val, by omega⟩)

/-- The values of all samples. -/
def valuesOut (c : Dev nD) : FVec Ideal S32x512 .f32 := fun y =>
  column (weights m c) (row m c (y 0)) ⟨1792 + (y 1).val, by have h : (y 1).val < 512 := (y 1).isLt; omega⟩

theorem valuesArr (c : Dev nD) : (dats m 0 c).arrAt 12 cfg0.N = valuesOut m c := by
  refine (dats m 0 c).arrAt_eq_of_covers 12 _ (by decide +kernel) fun t hf (y : S32x512.Idx) => ?_
  blk_simp
  rw [after0_12]
  frame_out
  idx_vars y
  refine Eq.trans (b := valuesOut m c (ix2 y0 y1)) ?_ (by blk_ext [idx t])
  pointwise [k0_pay12]
  show _ = column (weights m c) (row m c y0) ⟨1792 + y1.val, by omega⟩
  unfold column
  refine Finset.sum_congr rfl fun k _ => ?_
  refine congrArg₂ (· * ·) ?_ ?_
  · pointwise [k0_pay17, k0_pay4]
    exact inputBlock m c t y0 k
  · exact (rowBlock m c t k _).trans (valueRows m c k y1)

/-- The index keys of all samples. -/
def indexOut (c : Dev nD) : FVec Ideal S32x64 .f32 := fun y =>
  turned (indexKey (weights m c) (row m c (y 0))) here (y 1)

theorem indexArr (c : Dev nD) : (dats m 0 c).arrAt 14 cfg0.N = indexOut m c := by
  refine (dats m 0 c).arrAt_eq_of_covers 14 _ (by decide +kernel) fun t hf (y : S32x64.Idx) => ?_
  blk_simp
  rw [after0_14]
  frame_out
  idx_vars y
  refine (indexBlock _ _ _ _ (fun j => ?_) (fun j => ?_) y0 y1).trans ?_
  · pointwise [k0_pay18, k0_pay5]
    exact cosineBlock m c t j
  · pointwise [k0_pay19, k0_pay6]
    exact sineBlock m c t j
  refine Eq.trans (b := indexOut m c (ix2 y0 y1)) ?_ (by blk_ext [idx t])
  show _ = turned (indexKey (weights m c) (row m c y0)) here y1
  refine congrArg (fun T : Fin 64 → EReal => turned T here y1) (funext fun e => ?_)
  unfold indexKey column
  refine Finset.sum_congr rfl fun k _ => ?_
  refine congrArg₂ (· * ·) ?_ ?_
  · pointwise [k0_pay17, k0_pay4]
    exact inputBlock m c t y0 k
  · pointwise [r0_10]
    exact (weightBlock m c t k _).trans (indexColumns m c k e)

/-- What the convolution takes in, of all samples. -/
def takenOut (c : Dev nD) : FVec Ideal S32x256 .f32 := fun y => taken (weights m c) (row m c (y 0)) (y 1)

theorem takenArr (c : Dev nD) : (dats m 0 c).arrAt 9 cfg0.N = takenOut m c := by
  refine (dats m 0 c).arrAt_eq_of_covers 9 _ (by decide +kernel) fun t hf (y : S32x256.Idx) => ?_
  blk_simp
  rw [after0_9]
  frame_out
  idx_vars y
  refine Eq.trans (b := takenOut m c (ix2 y0 y1)) ?_ (by blk_ext [idx t])
  pointwise [k0_pay8, k0_pay7, k0_pay4]
  show _ = column (weights m c) (row m c y0) ⟨512 + y1.val, by omega⟩ * column (weights m c) (row m c y0) ⟨y1.val, by omega⟩
  unfold column
  refine congrArg₂ (· * ·) (Finset.sum_congr rfl fun k _ => ?_) (Finset.sum_congr rfl fun k _ => ?_)
  · refine congrArg₂ (· * ·) (inputBlock m c t y0 k) ?_
    exact (weightBlock m c t k _).trans (firstColumns m c k ⟨512 + y1.val, by omega⟩)
  · refine congrArg₂ (· * ·) (inputBlock m c t y0 k) ?_
    exact (weightBlock m c t k _).trans (firstColumns m c k ⟨y1.val, by omega⟩)

/-! ### The results, after the lines that follow the call -/

theorem apart : Function.Injective (Pipeline.arrRef spec0) := by decide +kernel

theorem result0 (c : Dev nD) : Pipeline.afterTail₀ cfgs (dats m) 0 (V0 m) [hostOps1] c main_v58
    = shapeCast S32x1x8x64 (keysOut m c) shapeCasts_S32x512_S32x1x8x64 := by
  unfold Pipeline.afterTail₀
  rw [List.flatten_singleton]
  entry_read
  exact congrArg (fun A => shapeCast S32x1x8x64 A shapeCasts_S32x512_S32x1x8x64)
    ((Pipeline.withArrays_arr spec0 apart c (V0 m c) (fun w => (dats m 0 c).arrAt w cfg0.N) 11).trans (keysArr m c))

theorem result1 (c : Dev nD) : Pipeline.afterTail₀ cfgs (dats m) 0 (V0 m) [hostOps1] c main_v59
    = shapeCast S32x1x8x64 (valuesOut m c) shapeCasts_S32x512_S32x1x8x64 := by
  unfold Pipeline.afterTail₀
  rw [List.flatten_singleton]
  entry_read
  exact congrArg (fun A => shapeCast S32x1x8x64 A shapeCasts_S32x512_S32x1x8x64)
    ((Pipeline.withArrays_arr spec0 apart c (V0 m c) (fun w => (dats m 0 c).arrAt w cfg0.N) 12).trans (valuesArr m c))

theorem result2 (c : Dev nD) : Pipeline.afterTail₀ cfgs (dats m) 0 (V0 m) [hostOps1] c main_v60
    = shapeCast S32x1x64 (indexOut m c) shapeCasts_S32x64_S32x1x64 := by
  unfold Pipeline.afterTail₀
  rw [List.flatten_singleton]
  entry_read
  exact congrArg (fun A => shapeCast S32x1x64 A shapeCasts_S32x64_S32x1x64)
    ((Pipeline.withArrays_arr spec0 apart c (V0 m c) (fun w => (dats m 0 c).arrAt w cfg0.N) 14).trans (indexArr m c))

/-- The earlier states as the call's lines read them. -/
theorem states (c : Dev nD) (b : Fin 32) (r : Fin 2) (j : Fin 256) : (V m c main_v50 : FVec Ideal S32x2x256 .f32) (ix3 b r j)
    = m ((c : Thread nD τ).loc main_arg3) (ix4 0 b r j) := by
  unfold V V0
  rw [List.flatten_singleton]
  after_reads_simp
  pointwise

/-- The later of two states beside what the convolution takes in. -/
theorem stacked (A : FVec Ideal S32x2x256 .f32) (Z : FVec Ideal S32x256 .f32) (b : Fin 32) (r : Fin 2) (j : Fin 256) :
    (concatenate S32x2x256 1
      [⟨S32x1x256, broadcastInDim S32x1x256 ![0, 2] bcast_S32x256_S32x1x256_0_2 (shapeCast S32x256
          (extractStridedSlice S32x1x256 ![0, 1, 0] A slices_S32x2x256_S32x1x256_0_1_0) shapeCasts_S32x1x256_S32x256)⟩,
        ⟨S32x1x256, broadcastInDim S32x1x256 ![0, 2] bcast_S32x256_S32x1x256_0_2 Z⟩]
      concatenates_S32x1x256_S32x1x256_S32x2x256_d1 : FVec Ideal S32x2x256 .f32) (ix3 b r j)
      = if r.val < 1 then A (ix3 b 1 j) else Z (ix2 b j) := by
  pointwise
  rfl

theorem result3 (c : Dev nD) (b : Fin 32) (r : Fin 2) (j : Fin 256) (X : FVec Ideal S32x2x256 .f32)
    (hX : V m c main_v50 = X) :
    (Pipeline.afterTail₀ cfgs (dats m) 0 (V0 m) [hostOps1] c main_v65 : FVec Ideal S32x2x256 .f32) (ix3 b r j)
      = if r.val < 1 then X (ix3 b 1 j) else takenOut m c (ix2 b j) := by
  have h1 := (Pipeline.withArrays_of_ne spec0 c (V0 m c) (fun w => (dats m 0 c).arrAt w cfg0.N) main_v50
    (by exact (by decide : ∀ w, Pipeline.arrRef spec0 w ≠ main_v50))).trans hX
  have h2 := (Pipeline.withArrays_arr spec0 apart c (V0 m c) (fun w => (dats m 0 c).arrAt w cfg0.N) 9).trans (takenArr m c)
  rw [← h1, ← h2]
  clear h1 h2 hX
  generalize hW : Pipeline.withArrays spec0 c (V0 m c) (fun w => (dats m 0 c).arrAt w cfg0.N) = W
  unfold Pipeline.afterTail₀
  rw [List.flatten_singleton]
  entry_read
  subst hW
  exact stacked _ _ b r j

end Cert.SampleInProjIdeal.Parts

end
-- ==== Proof.InProj.SampleResults.lean ====
module

public import proofs.«01_k».proof.Proof.SampleInProjValue

@[expose] public section

set_option maxRecDepth 16384

noncomputable section

open Idealize.ShloMosaic Idealize.ShloMosaic.TcCoe Idealize.SL.Sem
open Cert.InProjParts

namespace Cert.SampleInProjIdeal.Parts

open Cert.SampleInProjIdeal Cert.SampleInProjIdeal.Gen

variable (m : (ℓ : Loc nD τ sig) → Buf (Elt Ideal) ℓ) (ρ : Dev nD → PrngReg)

theorem keys_agree (c : Dev nD) : shapeCast S32x1x8x64 (keysOut m c) shapeCasts_S32x512_S32x1x8x64
    = Cert.SampleInProjRefIdeal.Read.val_main_v38 (F := Ideal) (m ((c : Thread nD τ).loc main_arg0)) (weights m c) := by
  funext i
  idx_vars i
  obtain rfl : i1 = 0 := Subsingleton.elim _ _
  refine Eq.trans ?_ (Cert.SampleInProjRefIdeal.Parts.keys _ _ i0 i2 i3).symm
  refine Eq.trans ?_ (keysOut_at m c i0 i2 i3)
  pointwise

theorem values_agree (c : Dev nD) : shapeCast S32x1x8x64 (valuesOut m c) shapeCasts_S32x512_S32x1x8x64
    = Cert.SampleInProjRefIdeal.Read.val_main_v40 (F := Ideal) (m ((c : Thread nD τ).loc main_arg0)) (weights m c) := by
  funext i
  idx_vars i
  obtain rfl : i1 = 0 := Subsingleton.elim _ _
  refine Eq.trans ?_ (Cert.SampleInProjRefIdeal.Parts.values _ _ i0 i2 i3).symm
  refine Eq.trans (b := valuesOut m c (ix2 i0 ⟨i2.val * 64 + i3.val, by omega⟩)) ?_ rfl
  pointwise

theorem index_agree (c : Dev nD) : shapeCast S32x1x64 (indexOut m c) shapeCasts_S32x64_S32x1x64
    = Cert.SampleInProjRefIdeal.Read.val_main_v75 (F := Ideal) (m ((c : Thread nD τ).loc main_arg0)) (weights m c) := by
  funext i
  idx_vars i
  obtain rfl : i1 = 0 := Subsingleton.elim _ _
  refine Eq.trans ?_ (Cert.SampleInProjRefIdeal.Parts.indexKeys _ _ i0 i2).symm
  refine Eq.trans (b := indexOut m c (ix2 i0 i2)) ?_ rfl
  pointwise

theorem states_agree (c : Dev nD) : Pipeline.afterTail₀ cfgs (dats m) 0 (V0 m) [hostOps1] c main_v65
    = Cert.SampleInProjRefIdeal.Read.val_main_v81 (F := Ideal) (m ((c : Thread nD τ).loc main_arg0)) (weights m c)
        (m ((c : Thread nD τ).loc main_arg3)) := by
  funext i
  idx_vars i
  refine (result3 m c i0 i1 i2 _ rfl).trans ?_
  by_cases h : i1.val < 1
  · obtain rfl : i1 = 0 := Fin.ext (by show i1.val = 0; omega)
    exact ((if_pos h).trans (states m c i0 1 i2)).trans (Cert.SampleInProjRefIdeal.Parts.kept _ _ _ i0 i2).symm
  · obtain rfl : i1 = 1 := Fin.ext (by show i1.val = 1; omega)
    exact (if_neg h).trans (Cert.SampleInProjRefIdeal.Parts.newest _ _ _ i0 i2).symm

/-- The launch ends with the four results and its arguments as they were. -/
theorem run_results : θ_run (defs (F := Ideal)) (onTc (τ := τ) (main (F := Ideal))) ⟨m, fun _ => 0, ρ⟩ (fun r => ∀ c : Dev nD,
      (r.2.mem ((c.tc : Thread nD τ).loc main_v58) = Pipeline.afterTail₀ cfgs (dats m) 0 (V0 m) [hostOps1] c main_v58
      ∧ r.2.mem ((c.tc : Thread nD τ).loc main_v59) = Pipeline.afterTail₀ cfgs (dats m) 0 (V0 m) [hostOps1] c main_v59
      ∧ r.2.mem ((c.tc : Thread nD τ).loc main_v60) = Pipeline.afterTail₀ cfgs (dats m) 0 (V0 m) [hostOps1] c main_v60
      ∧ r.2.mem ((c.tc : Thread nD τ).loc main_v65) = Pipeline.afterTail₀ cfgs (dats m) 0 (V0 m) [hostOps1] c main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c =>
    ⟨⟨(h.1 c).2 main_v58 (Pipeline.mem_restRefs_of main_v58 (by decide) (by decide)),
      (h.1 c).2 main_v59 (Pipeline.mem_restRefs_of main_v59 (by decide) (by decide)),
      (h.1 c).2 main_v60 (Pipeline.mem_restRefs_of main_v60 (by decide) (by decide)),
      (h.1 c).2 main_v65 (Pipeline.mem_restRefs_of main_v65 (by decide) (by decide))⟩, h.2 c⟩)
    (θ_run_and (run_main m ρ) (unchanged m ρ))

end Cert.SampleInProjIdeal.Parts

namespace Cert.SampleInProjProof

/-- The reference leaves its arguments unchanged and ends with every counter at zero. -/
theorem frame_reference : Cert.quiescent_SampleInProjRefIdeal (hSampleInProjRefIdeal := Cert.SampleInProjRefIdeal.Gen.facts) :=
  fun m ρ _ => (θ_run _ _ _).mono
    (fun r h => ⟨fun c => (h c).2.2.2.2, sem_eq_zero_of_no_sems (by decide) _⟩)
    (Cert.SampleInProjRefIdeal.Value.run (F := Ideal) m ρ)

/-- Both programs end with the keys, the values, the index keys and the states of the convolution. -/
theorem same_results : Cert.algebraic_SampleInProjIdeal_SampleInProjRefIdeal
    (hSampleInProjIdeal := Cert.SampleInProjIdeal.Gen.facts)
    (hSampleInProjRefIdeal := Cert.SampleInProjRefIdeal.Gen.facts) := by
  intro m g m' g' _ hargs
  refine ⟨_, _, _, _, (θ_run _ _ _).mono (fun r h c => ⟨(h c).1.1, (h c).1.2.1, (h c).1.2.2.1, (h c).1.2.2.2, (h c).2⟩)
    (Cert.SampleInProjIdeal.Parts.run_results m g), (θ_run _ _ _).mono (fun r h c => ?_)
    (Cert.SampleInProjRefIdeal.Value.run (F := Ideal) m' g')⟩
  obtain ⟨h0, h1, h2, h3, ha⟩ := h c
  obtain ⟨e0, e1, e2, e3⟩ := hargs c
  refine ⟨h0.trans ?_, h1.trans ?_, h2.trans ?_, h3.trans ?_, ha⟩
  · rw [Cert.SampleInProjRefIdeal.Read.val_main_v38_eq m' c, e0, e1]
    exact (Cert.SampleInProjIdeal.Parts.keys_agree m c).symm.trans (Cert.SampleInProjIdeal.Parts.result0 m c).symm
  · rw [e0, e1]
    exact (Cert.SampleInProjIdeal.Parts.values_agree m c).symm.trans (Cert.SampleInProjIdeal.Parts.result1 m c).symm
  · rw [Cert.SampleInProjRefIdeal.Read.val_main_v75_eq m' c, e0, e1]
    exact (Cert.SampleInProjIdeal.Parts.index_agree m c).symm.trans (Cert.SampleInProjIdeal.Parts.result2 m c).symm
  · rw [e0, e1, e3]
    exact (Cert.SampleInProjIdeal.Parts.states_agree m c).symm

end Cert.SampleInProjProof

end
-- ==== Proof.lean ====
module

public import proofs.«01_k».proof.Defs
public import proofs.«01_k».proof.Proof.Gen.GroupedMoe
public import proofs.«01_k».proof.Proof.Gen.GroupedMoe.Skeleton
public import proofs.«01_k».proof.Proof.Gen.GroupedMoe.Launch
public import proofs.«01_k».proof.Proof.Gen.GroupedMoe.Flash
public import proofs.«01_k».proof.Proof.Gen.GroupedMoeIdeal
public import proofs.«01_k».proof.Proof.Gen.GroupedMoeIdeal.Skeleton
public import proofs.«01_k».proof.Proof.Gen.GroupedMoeIdeal.Launch
public import proofs.«01_k».proof.Proof.Gen.GroupedMoeIdeal.Flash
public import proofs.«01_k».proof.Proof.Gen.GroupedMoeRefIdeal
public import proofs.«01_k».proof.Proof.Gen.GroupedMoeRefIdeal.Run
public import proofs.«01_k».proof.Proof.Gen.GroupedMoeRefIdeal.Read
public import proofs.«01_k».proof.Proof.Gen.Pre_groups_exist
public import proofs.«01_k».proof.Proof.Gen.SampleMoe
public import proofs.«01_k».proof.Proof.Gen.SampleMoe.Skeleton
public import proofs.«01_k».proof.Proof.Gen.SampleMoe.Launch
public import proofs.«01_k».proof.Proof.Gen.SampleMoe.Points
public import proofs.«01_k».proof.Proof.Gen.SampleMoe.Frame
public import proofs.«01_k».proof.Proof.Gen.SampleMoeIdeal
public import proofs.«01_k».proof.Proof.Gen.SampleMoeIdeal.Skeleton
public import proofs.«01_k».proof.Proof.Gen.SampleMoeIdeal.Launch
public import proofs.«01_k».proof.Proof.Gen.SampleMoeIdeal.Points
public import proofs.«01_k».proof.Proof.Gen.SampleMoeIdeal.Frame
public import proofs.«01_k».proof.Proof.Gen.SampleMoeRefIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvRefIdeal
public import proofs.«01_k».proof.Proof.Gen.SampleMoeIdeal.Value
public import proofs.«01_k».proof.Proof.Gen.SampleMoeRefIdeal.Run
public import proofs.«01_k».proof.Proof.Gen.SampleMoeRefIdeal.Read
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Gen.InProj
public import proofs.«01_k».proof.Proof.Gen.InProj.Frame
public import proofs.«01_k».proof.Proof.Gen.InProjIdeal.Frame
public import proofs.«01_k».proof.Proof.Gen.InProjRefIdeal.Run
public import proofs.«01_k».proof.Proof.Gen.InProjRefIdeal.Read
public import proofs.«01_k».proof.Proof.Gen.SampleInProj.Frame
public import proofs.«01_k».proof.Proof.Gen.SampleInProjIdeal.Frame
public import proofs.«01_k».proof.Proof.Gen.SampleInProjRefIdeal.Run
public import proofs.«01_k».proof.Proof.Gen.SampleInProjRefIdeal.Read
public import proofs.«01_k».proof.Proof.MemKvValue
public import proofs.«01_k».proof.Proof.SampleMoeValue
public import proofs.«01_k».proof.Proof.Grouped.Results
public import proofs.«01_k».proof.Proof.InProj.Results
public import proofs.«01_k».proof.Proof.InProj.SampleResults
public import Idealize.ShloMosaic.Adequacy
public import Idealize.ShloMosaic.Init

@[expose] public section

noncomputable section

namespace Cert.Proof

open Idealize.ShloMosaic Idealize.SL.Sem Cert.SampleMoe

theorem claim : Cert.Claim := ⟨Cert.GroupedMoe.Gen.facts, Cert.GroupedMoeIdeal.Gen.facts, Cert.GroupedMoeRefIdeal.Gen.facts,
  Cert.SampleMoe.Gen.facts, Cert.SampleMoeIdeal.Gen.facts, Cert.SampleMoeRefIdeal.Gen.facts,
  Cert.MemKv.Gen.facts, Cert.MemKvIdeal.Gen.facts, Cert.MemKvRefIdeal.Gen.facts,
  Cert.InProj.Gen.facts, Cert.InProjIdeal.Gen.facts, Cert.InProjRefIdeal.Gen.facts,
  Cert.SampleInProj.Gen.facts, Cert.SampleInProjIdeal.Gen.facts, Cert.SampleInProjRefIdeal.Gen.facts, Cert.Pre_groups_exist.Gen.facts,
  Cert.GroupedMoeProof.frame_kernel, Cert.GroupedMoeProof.frame_ideal, Cert.GroupedMoeProof.frame_reference,
  fun m ρ _ => Cert.SampleMoe.Gen.frame m ρ, fun m ρ _ => Cert.SampleMoeIdeal.Gen.frame m ρ, Cert.SampleMoeProof.frame_reference,
  fun m ρ _ => Cert.MemKv.Gen.frame m ρ, fun m ρ _ => Cert.MemKvIdeal.Gen.frame m ρ, Cert.MemKvProof.frame_reference,
  fun m ρ _ => Cert.InProj.Gen.frame m ρ, fun m ρ _ => Cert.InProjIdeal.Gen.frame m ρ, Cert.InProjProof.frame_reference,
  fun m ρ _ => Cert.SampleInProj.Gen.frame m ρ, fun m ρ _ => Cert.SampleInProjIdeal.Gen.frame m ρ,
  Cert.SampleInProjProof.frame_reference,
  trivial, Cert.GroupedMoeProof.same_results, trivial, Cert.SampleMoeProof.same_results, trivial, Cert.MemKvProof.same_results,
  trivial, Cert.InProjProof.same_results, trivial, Cert.SampleInProjProof.same_results⟩

end Cert.Proof

end
